-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S100000x128 : Shape := ⟨2, ![100000, 128]⟩
abbrev S100000 : Shape := ⟨1, ![100000]⟩
abbrev S64x128 : Shape := ⟨2, ![64, 128]⟩
abbrev S1x64 : Shape := ⟨2, ![1, 64]⟩
abbrev S_ : Shape := ⟨0, ![]⟩
abbrev S99999 : Shape := ⟨1, ![99999]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  slices_S100000_S99999_0 : S100000.Slices ![0] S99999
  slices_S100000_S99999_1 : S100000.Slices ![1] S99999
  reducesTo_S99999_S_d0 : S99999.ReducesTo [0] S_

variable [Facts]

def fn_part1 {F : FTy → Type} [FloatOps F] (main_v13 : IVec S_ 1) (main_v16 : IVec S99999 1) (main_c_4 : IVec S_ 1) : IVec S_ 1 :=
  let main_v17 : IVec S_ 1 := (fun x v => Host.reduce IntOp.andi x v reducesTo_S99999_S_d0 h_S_) main_v16 main_c_4
  let main_v18 : IVec S_ 1 := andi main_v13 main_v17
  main_v18

def fn {F : FTy → Type} [FloatOps F] (main_arg0 : FVec F S100000x128 .f32) (main_arg1 : IVec S100000 32) (main_arg2 : FVec F S64x128 .f32) (main_arg3 : FVec F S64x128 .f32) (main_arg4 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S1x64 .f32 := Host.absf main_arg4
  let main_cst_2 : FVec F S_ .f32 := constant S_ .f32 0x428A0000#32
  let main_v10 : FVec F S1x64 .f32 := broadcastInDim S1x64 ![] bcast_S_S1x64 main_cst_2
  let main_v11 : IVec S1x64 1 := cmpf .ole main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : IVec S99999 32 := (extractStridedSlice S99999 ![0] · slices_S100000_S99999_0) main_arg1
  let main_v15 : IVec S99999 32 := (extractStridedSlice S99999 ![1] · slices_S100000_S99999_1) main_arg1
  let main_v16 : IVec S99999 1 := cmpi .sle main_v14 main_v15
  let main_c_4 : IVec S_ 1 := constantI S_ 1 1#1
  fn_part1 (F := F) main_v13 main_v16 main_c_4
-- ==== Kernel.lean ====
abbrev S100000x128 : Shape := ⟨2, ![100000, 128]⟩
abbrev S100000 : Shape := ⟨1, ![100000]⟩
abbrev S64x128 : Shape := ⟨2, ![64, 128]⟩
abbrev S1x64 : Shape := ⟨2, ![1, 64]⟩
abbrev S65 : Shape := ⟨1, ![65]⟩
abbrev S1x65 : Shape := ⟨2, ![1, 65]⟩
abbrev S100000x1 : Shape := ⟨2, ![100000, 1]⟩
abbrev S100000x65 : Shape := ⟨2, ![100000, 65]⟩
abbrev S_ : Shape := ⟨0, ![]⟩
abbrev S64 : Shape := ⟨1, ![64]⟩
abbrev S128x64 : Shape := ⟨2, ![128, 64]⟩
abbrev S64x1 : Shape := ⟨2, ![64, 1]⟩
abbrev S2000x128 : Shape := ⟨2, ![2000, 128]⟩
abbrev S2000x64 : Shape := ⟨2, ![2000, 64]⟩
abbrev S2000x1 : Shape := ⟨2, ![2000, 1]⟩
abbrev S2000 : Shape := ⟨1, ![2000]⟩

abbrev nBuf : Space → Nat
  | .hbm => 22
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S64x128, .f32⟩
  | .hbm, ⟨4, _⟩ => ⟨S1x64, .f32⟩
  | .hbm, ⟨5, _⟩ => ⟨S65, .i32⟩
  | .hbm, ⟨6, _⟩ => ⟨S1x65, .i32⟩
  | .hbm, ⟨7, _⟩ => ⟨S100000x1, .i32⟩
  | .hbm, ⟨8, _⟩ => ⟨S100000x65, .i32⟩
  | .hbm, ⟨9, _⟩ => ⟨S100000x65, .i32⟩
  | .hbm, ⟨10, _⟩ => ⟨S100000x65, .i1⟩
  | .hbm, ⟨11, _⟩ => ⟨S100000x65, .i32⟩
  | .hbm, ⟨12, _⟩ => ⟨S_, .i32⟩
  | .hbm, ⟨13, _⟩ => ⟨S65, .i32⟩
  | .hbm, ⟨14, _⟩ => ⟨S64, .i32⟩
  | .hbm, ⟨15, _⟩ => ⟨S1x64, .i32⟩
  | .hbm, ⟨16, _⟩ => ⟨S64, .i32⟩
  | .hbm, ⟨17, _⟩ => ⟨S1x64, .i32⟩
  | .hbm, ⟨18, _⟩ => ⟨S128x64, .f32⟩
  | .hbm, ⟨19, _⟩ => ⟨S128x64, .f32⟩
  | .hbm, ⟨20, _⟩ => ⟨S64x1, .f32⟩
  | .hbm, ⟨21, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S1x64, .i32⟩
  | .local _ .vmem, ⟨3, _⟩ => ⟨S1x64, .i32⟩
  | .local _ .vmem, ⟨4, _⟩ => ⟨S128x64, .f32⟩
  | .local _ .vmem, ⟨5, _⟩ => ⟨S128x64, .f32⟩
  | .local _ .vmem, ⟨6, _⟩ => ⟨S64x1, .f32⟩
  | .local _ .vmem, ⟨7, _⟩ => ⟨S64x128, .f32⟩
  | .local _ .vmem, ⟨8, _⟩ => ⟨S64x128, .f32⟩
  | .local _ .vmem, ⟨9, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S64x128 : Shape := ⟨2, ![64, 128]⟩
abbrev S1x64 : Shape := ⟨2, ![1, 64]⟩
abbrev S128x64 : Shape := ⟨2, ![128, 64]⟩
abbrev S100000x64 : Shape := ⟨2, ![100000, 64]⟩
abbrev S_ : Shape := ⟨0, ![]⟩
abbrev S100000x1 : Shape := ⟨2, ![100000, 1]⟩
abbrev S64x1 : Shape := ⟨2, ![64, 1]⟩
abbrev S64 : Shape := ⟨1, ![64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S64x128, .f32⟩
  | .hbm, ⟨4, _⟩ => ⟨S1x64, .f32⟩
  | .hbm, ⟨5, _⟩ => ⟨S128x64, .f32⟩
  | .hbm, ⟨6, _⟩ => ⟨S100000x64, .f32⟩
  | .hbm, ⟨7, _⟩ => ⟨S100000x64, .f32⟩
  | .hbm, ⟨8, _⟩ => ⟨S128x64, .f32⟩
  | .hbm, ⟨9, _⟩ => ⟨S100000x64, .f32⟩
  | .hbm, ⟨10, _⟩ => ⟨S_, .f32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S64x1, .f32⟩
  | .hbm, ⟨26, _⟩ => ⟨S100000x1, .f32⟩
  | .hbm, ⟨27, _⟩ => ⟨S100000, .f32⟩
  | .hbm, ⟨28, _⟩ => ⟨S100000x1, .i32⟩
  | .hbm, ⟨29, _⟩ => ⟨S64, .i32⟩
  | .hbm, ⟨30, _⟩ => ⟨S1x64, .i32⟩
  | .hbm, ⟨31, _⟩ => ⟨S100000x64, .i32⟩
  | .hbm, ⟨32, _⟩ => ⟨S100000x64, .i32⟩
  | .hbm, ⟨33, _⟩ => ⟨S100000x64, .i1⟩
  | .hbm, ⟨34, _⟩ => ⟨S100000x1, .f32⟩
  | .hbm, ⟨35, _⟩ => ⟨S_, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S64, .f32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S_, .f32⟩
  | .hbm, ⟨54, _⟩ => ⟨S64, .f32⟩
  | .hbm, ⟨55, _⟩ => ⟨S100000x1, .i32⟩
  | .hbm, ⟨56, _⟩ => ⟨S64, .f32⟩
  | .hbm, ⟨57, _⟩ => ⟨S_, .i32⟩
  | .hbm, ⟨58, _⟩ => ⟨S100000, .i32⟩
  | .hbm, ⟨59, _⟩ => ⟨S100000, .i1⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S100000, .i32⟩
  | .hbm, ⟨64, _⟩ => ⟨S100000x1, .i32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S64x128, .f32⟩
  | .hbm, ⟨72, _⟩ => ⟨S100000x1, .i32⟩
  | .hbm, ⟨73, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.Step.lean ====
module

public import proofs.«01_k».proof.Proof.Gen.KernelIdeal.Value

@[expose] public section

set_option maxRecDepth 16384

noncomputable section

open Idealize.ShloMosaic Idealize.ShloMosaic.TcCoe Idealize.SL.Sem

namespace Cert.KernelIdeal.Step

open Cert.KernelIdeal Cert.KernelIdeal.Gen

variable {F : FTy → Type} [FloatOps F]
variable (m : (ℓ : Loc nD τ sig) → Buf (Elt F) ℓ)

/-- The zero offsets of a rank-two access. -/
theorem offsets_zero : (![0, 0] : Fin 2 → Nat) = fun _ => 0 := funext fun a => by fin_cases a <;> rfl

/-- The masked weights of the rows of grid point `t`. -/
abbrev weights (c : Dev nD) (t : Fin cfg0.N) : FVec F S2000x64 .f32 :=
  k0_pay6 (grid0.coords t) (iblk m c 0 t) (iblk m c 3 t) (iblk m c 4 t) (iblk m c 5 t) (iblk m c 1 t) (iblk m c 2 t)

section Cases

variable (c : Dev nD) (i : grid0.Coords)
  (arg1 : Memref sig .tc .vmem S2000x128 .f32) (harg1 : arg1.IsWhole) (arg2 : Memref sig .tc .vmem S1x64 .i32) (harg2 : arg2.IsWhole)
  (arg3 : Memref sig .tc .vmem S1x64 .i32) (harg3 : arg3.IsWhole) (arg4 : Memref sig .tc .vmem S128x64 .f32) (harg4 : arg4.IsWhole)
  (arg5 : Memref sig .tc .vmem S128x64 .f32) (harg5 : arg5.IsWhole) (arg6 : Memref sig .tc .vmem S64x1 .f32) (harg6 : arg6.IsWhole)
  (arg7 : Memref sig .tc .vmem S64x128 .f32) (harg7 : arg7.IsWhole) (arg8 : Memref sig .tc .vmem S64x128 .f32) (harg8 : arg8.IsWhole)
  (arg9 : Memref sig .tc .vmem S64x1 .f32) (harg9 : arg9.IsWhole)
  (x0 : Vec F S2000x128 .f32) (x1 x2 : Vec F S1x64 .i32) (x3 x4 : Vec F S128x64 .f32) (x5 : Vec F S64x1 .f32)
  (s0 : Vec F S64x128 .f32) (s1 : Vec F S64x1 .f32)

/-- The first point leaves in the weighted-row sums one block's sums over zero. -/
theorem sums_first (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5
      = k0_pay1 x0 (k0_pay6 i x0 x3 x4 x5 x1 x2) k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S64x128) offsets_zero]
  simp only [View.readCov_unit_zero (S := S64x128) _ offsets_zero, View.readAt_eq_ld, harg1.read_unread, harg2.read_unread, harg3.read_unread,
    harg4.read_unread, harg5.read_unread, harg6.read_unread, View.ld_unit_zero (S := S2000x128) offsets_zero,
    View.ld_unit_zero (S := S1x64) offsets_zero, View.ld_unit_zero (S := S128x64) offsets_zero, View.ld_unit_zero (S := S64x1) offsets_zero]

/-- The first point leaves in the weight sums one block's sums over zero. -/
theorem norms_first (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4 x5
      = k0_pay2 (k0_pay6 i x0 x3 x4 x5 x1 x2) k0_pay5 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S64x1) offsets_zero]
  simp only [View.readCov_unit_zero (S := S64x1) _ offsets_zero, View.readAt_eq_ld, harg1.read_unread, harg2.read_unread, harg3.read_unread,
    harg4.read_unread, harg5.read_unread, harg6.read_unread, View.ld_unit_zero (S := S2000x128) offsets_zero,
    View.ld_unit_zero (S := S1x64) offsets_zero, View.ld_unit_zero (S := S128x64) offsets_zero, View.ld_unit_zero (S := S64x1) offsets_zero]

/-- A middle point adds its block's weighted rows to the sums. -/
theorem sums_middle (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 s0 s1
      = k0_pay1 x0 (k0_pay6 i x0 x3 x4 x5 x1 x2) s0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 s0 s1)]
  unfold kernelRun0_B
  dsimp only
  sl_unfold_words
  rw [View.canon_unit_zero offsets_zero]
  simp only [View.readAt_eq_ld, harg1.read_unread, harg2.read_unread, harg3.read_unread,
    harg4.read_unread, harg5.read_unread, harg6.read_unread, harg8.read_unread, View.ld_unit_zero (S := S2000x128) offsets_zero,
    View.ld_unit_zero (S := S1x64) offsets_zero, View.ld_unit_zero (S := S128x64) offsets_zero, View.ld_unit_zero (S := S64x1) offsets_zero,
    View.ld_unit_zero (S := S64x128) offsets_zero]

/-- A middle point adds its block's weights to the weight sums. -/
theorem norms_middle (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x0 x1 x2 x3 x4 x5 s0 s1
      = k0_pay2 (k0_pay6 i x0 x3 x4 x5 x1 x2) s1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 s0 s1)]
  unfold kernelRun0_B
  dsimp only
  sl_unfold_words
  rw [View.canon_unit_zero offsets_zero]
  simp only [View.readAt_eq_ld, harg1.read_unread, harg2.read_unread, harg3.read_unread,
    harg4.read_unread, harg5.read_unread, harg6.read_unread, harg9.read_unread, View.ld_unit_zero (S := S2000x128) offsets_zero,
    View.ld_unit_zero (S := S1x64) offsets_zero, View.ld_unit_zero (S := S128x64) offsets_zero, View.ld_unit_zero (S := S64x1) offsets_zero]

/-- The last point writes out the quotient of the two running sums, its own block included. -/
theorem out_last (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 x5 s0 s1
      = k0_pay3 (k0_pay1 x0 (k0_pay6 i x0 x3 x4 x5 x1 x2) s0) (k0_pay2 (k0_pay6 i x0 x3 x4 x5 x1 x2) s1) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 s0 s1)]
  unfold kernelRun0_C
  dsimp only
  sl_unfold_words
  rw [View.canon_unit_zero offsets_zero]
  simp only [View.readCov_unit_zero (S := S64x128) _ offsets_zero, View.readCov_unit_zero (S := S64x1) _ offsets_zero, View.readAt_eq_ld,
    harg1.read_unread, harg2.read_unread, harg3.read_unread,
    harg4.read_unread, harg5.read_unread, harg6.read_unread, harg8.read_unread, harg9.read_unread, View.ld_unit_zero (S := S2000x128) offsets_zero,
    View.ld_unit_zero (S := S1x64) offsets_zero, View.ld_unit_zero (S := S128x64) offsets_zero, View.ld_unit_zero (S := S64x1) offsets_zero,
    View.ld_unit_zero (S := S64x128) offsets_zero]

end Cases

end Cert.KernelIdeal.Step

end
-- ==== Proof.Payload.lean ====
module

public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem Idealize.ShloMosaic.ValueIdx

namespace Cert.KernelIdeal.Payload

open Cert.KernelIdeal Cert.KernelIdeal.Gen

/-- The word of the float one is the number one. -/
theorem one_word : Ideal.ofBits .f32 0x3F800000#32 = 1 := by
  simp [Ideal.ofBits, Ideal.ieee, -EReal.coe_mul]; norm_num

/-- A block's weights times its rows, summed over the rows of the block: the left operand is read by columns. -/
theorem columns_rows_apply (w : FVec Ideal S2000x64 .f32) (x : FVec Ideal S2000x128 .f32) (b : Fin 64) (d : Fin 128) :
    matmul dot_S2000x64_S2000x128_S64x128_0_0_1_1_n_n none w x (constant S64x128 .f32 0x00000000#32) (ix2 b d)
      = ∑ r : Fin 2000, w (ix2 r b) * x (ix2 r d) := by
  simp only [matmul]
  rw [Ideal.matmul_constant_zero_apply, ← Equiv.sum_comp (contrEquiv1 dot_S2000x64_S2000x128_S64x128_0_0_1_1_n_n 2000 rfl rfl).symm]
  refine Finset.sum_congr rfl fun r _ => ?_
  have hr := contrEquiv1_symm_val dot_S2000x64_S2000x128_S64x128_0_0_1_1_n_n 2000 rfl rfl r
  have el : dot_S2000x64_S2000x128_S64x128_0_0_1_1_n_n.lhsIdx (ix2 b d) ((contrEquiv1 dot_S2000x64_S2000x128_S64x128_0_0_1_1_n_n 2000 rfl rfl).symm r) = ix2 r b := by
    funext a; apply Fin.ext
    match a with
    | ⟨0, _⟩ => exact hr
    | ⟨1, _⟩ => rfl
  have er : dot_S2000x64_S2000x128_S64x128_0_0_1_1_n_n.rhsIdx (ix2 b d) ((contrEquiv1 dot_S2000x64_S2000x128_S64x128_0_0_1_1_n_n 2000 rfl rfl).symm r) = ix2 r d := by
    funext a; apply Fin.ext
    match a with
    | ⟨0, _⟩ => exact hr
    | ⟨1, _⟩ => rfl
  rw [el, er]

/-- The same against a single column. -/
theorem columns_column_apply (w : FVec Ideal S2000x64 .f32) (x : FVec Ideal S2000x1 .f32) (b : Fin 64) (d : Fin 1) :
    matmul dot_S2000x64_S2000x1_S64x1_0_0_1_1_n_n none w x (constant S64x1 .f32 0x00000000#32) (ix2 b d)
      = ∑ r : Fin 2000, w (ix2 r b) * x (ix2 r d) := by
  simp only [matmul]
  rw [Ideal.matmul_constant_zero_apply, ← Equiv.sum_comp (contrEquiv1 dot_S2000x64_S2000x1_S64x1_0_0_1_1_n_n 2000 rfl rfl).symm]
  refine Finset.sum_congr rfl fun r _ => ?_
  have hr := contrEquiv1_symm_val dot_S2000x64_S2000x1_S64x1_0_0_1_1_n_n 2000 rfl rfl r
  have el : dot_S2000x64_S2000x1_S64x1_0_0_1_1_n_n.lhsIdx (ix2 b d) ((contrEquiv1 dot_S2000x64_S2000x1_S64x1_0_0_1_1_n_n 2000 rfl rfl).symm r) = ix2 r b := by
    funext a; apply Fin.ext
    match a with
    | ⟨0, _⟩ => exact hr
    | ⟨1, _⟩ => rfl
  have er : dot_S2000x64_S2000x1_S64x1_0_0_1_1_n_n.rhsIdx (ix2 b d) ((contrEquiv1 dot_S2000x64_S2000x1_S64x1_0_0_1_1_n_n 2000 rfl rfl).symm r) = ix2 r d := by
    funext a; apply Fin.ext
    match a with
    | ⟨0, _⟩ => exact hr
    | ⟨1, _⟩ => rfl
  rw [el, er]

/-- One block added to the weighted-row sums, at an element. -/
theorem sums_apply (x : Vec Ideal S2000x128 .f32) (w : FVec Ideal S2000x64 .f32) (s : Vec Ideal S64x128 .f32) (b : Fin 64) (d : Fin 128) :
    k0_pay1 x w s (ix2 b d) = s (ix2 b d) + ∑ r : Fin 2000, w (ix2 r b) * x (ix2 r d) := by
  unfold k0_pay1
  rw [shapeCast_self, addf_apply, columns_rows_apply]

/-- One block added to the weight sums, at an element. -/
theorem norms_apply (w : FVec Ideal S2000x64 .f32) (s : Vec Ideal S64x1 .f32) (b : Fin 64) :
    k0_pay2 w s (ix2 b 0) = s (ix2 b 0) + ∑ r : Fin 2000, w (ix2 r b) := by
  unfold k0_pay2
  rw [shapeCast_self, addf_apply, columns_column_apply]
  refine congrArg (_ + ·) (Finset.sum_congr rfl fun r _ => ?_)
  rw [broadcast_apply]
  show _ * Ideal.ofBits .f32 0x3F800000#32 = _
  rw [one_word, mul_one]

/-- The quotient written out, at an element. -/
theorem quotient_apply (s : Vec Ideal S64x128 .f32) (n : Vec Ideal S64x1 .f32) (b : Fin 64) (d : Fin 128) :
    k0_pay3 s n (ix2 b d) = Ideal.div (s (ix2 b d)) (max (n (ix2 b 0)) (Ideal.ofBits .f32 0x0DA24260#32)) := by
  unfold k0_pay3
  rw [divf_apply, broadcastTo_apply _ broadcasts_S64x1_S64x128 (ix2 b d) (ix2 b 0) (fun a => match a with
    | ⟨0, _⟩ => by show b.val = if (64 : Nat) = 1 then 0 else b.val; rw [if_neg (by decide)]
    | ⟨1, _⟩ => by show 0 = if (1 : Nat) = 1 then 0 else d.val; rw [if_pos rfl]), maximumf_apply]
  rfl

/-- The weighted-row sums start at zero. -/
theorem sums_start (i : S64x128.Idx) : k0_pay4 (F := Ideal) i = 0 := by
  unfold k0_pay4
  rw [shapeCast_self]
  exact Ideal.ofBits_zero_f32

/-- The weight sums start at zero. -/
theorem norms_start (i : S64x1.Idx) : k0_pay5 (F := Ideal) i = 0 := by
  unfold k0_pay5
  rw [shapeCast_self]
  exact Ideal.ofBits_zero_f32

/-- Row `r` of a block against column `h` of a transposed weight matrix. -/
def logit (x : Vec Ideal S2000x128 .f32) (w : Vec Ideal S128x64 .f32) (r : Fin 2000) (h : Fin 64) : EReal :=
  ∑ k : Fin 128, x (ix2 r k) * w (ix2 k h)

/-- The attention score of row `r` of a block, as the kernel forms it. -/
def score (x : Vec Ideal S2000x128 .f32) (w1 w2 : Vec Ideal S128x64 .f32) (w3 : Vec Ideal S64x1 .f32) (r : Fin 2000) : EReal :=
  Ideal.div (∑ h : Fin 64, (Ideal.tanh (logit x w1 r h) * Ideal.exp (logit x w2 r h)) * w3 (ix2 h 0))
    (∑ h : Fin 64, Ideal.exp (logit x w2 r h))

/-- The weight of row `r` of a block for bag `b`: the exponential of its score where the row lies in the bag's range, else zero. -/
theorem weights_apply (i : grid0.Coords) (x : Vec Ideal S2000x128 .f32) (w1 w2 : Vec Ideal S128x64 .f32) (w3 : Vec Ideal S64x1 .f32)
    (st en : Vec Ideal S1x64 .i32) (r : Fin 2000) (b : Fin 64) :
    k0_pay6 i x w1 w2 w3 st en (ix2 r b)
      = Scalar.select (IntOp.andi
          (IntOp.cmpi .sge (IntOp.addi (IntOp.muli (BitVec.ofNat 32 (i 0).val) 2000#32) (BitVec.ofNat 32 r.val)) (st (ix2 0 b)))
          (IntOp.cmpi .slt (IntOp.addi (IntOp.muli (BitVec.ofNat 32 (i 0).val) 2000#32) (BitVec.ofNat 32 r.val)) (en (ix2 0 b))))
          (Ideal.exp (score x w1 w2 w3 r)) (0 : EReal) := by
  have hl : ∀ (w : Vec Ideal S128x64 .f32) (h : Fin 64), matmul (F := Ideal) (φ₁ := .f32) (φ₂ := .f32) dot_S2000x128_S128x64_S2000x64_1_0_0_1_n_n none x w (constant S2000x64 .f32 0x00000000#32) (ix2 r h) = logit x w r h := by
    intro w h
    refine (Ideal.matmul_plain_apply none x w _ r h).trans ?_
    rw [constant_apply, Ideal.ofBits_zero_f32, zero_add]; rfl
  unfold k0_pay6
  simp only [shapeCast_self]
  rw [select_apply, broadcastTo_apply _ broadcasts_S2000x1_S2000x64 (ix2 r b) (ix2 r 0) (fun a => match a with
    | ⟨0, _⟩ => by show r.val = if (2000 : Nat) = 1 then 0 else r.val; rw [if_neg (by decide)]
    | ⟨1, _⟩ => by show 0 = if (1 : Nat) = 1 then 0 else b.val; rw [if_pos rfl])]
  congr 1
  · show IntOp.andi (IntOp.cmpi .sge _ (broadcastTo S2000x64 st broadcasts_S1x64_S2000x64 (ix2 r b)))
      (IntOp.cmpi .slt _ (broadcastTo S2000x64 en broadcasts_S1x64_S2000x64 (ix2 r b))) = _
    have hb : ∀ y : Vec Ideal S1x64 .i32, broadcastTo S2000x64 y broadcasts_S1x64_S2000x64 (ix2 r b) = y (ix2 0 b) := fun y =>
      broadcastTo_apply _ broadcasts_S1x64_S2000x64 (ix2 r b) (ix2 0 b) (fun a => match a with
        | ⟨0, _⟩ => by show 0 = if (1 : Nat) = 1 then 0 else r.val; rw [if_pos rfl]
        | ⟨1, _⟩ => by show b.val = if (64 : Nat) = 1 then 0 else b.val; rw [if_neg (by decide)])
    rw [hb, hb]
    have hp : addi (broadcast S2000x64 (Scalar.muli (BitVec.ofNat 32 (i 0).val) 2000#32)) (iota Kind.tc S2000x64 32 [0] iota_S2000x64_d0_w32) (ix2 r b)
        = IntOp.addi (IntOp.muli (BitVec.ofNat 32 (i 0).val) 2000#32) (BitVec.ofNat 32 r.val) := by
      show IntOp.addi _ (iota Kind.tc S2000x64 32 [0] iota_S2000x64_d0_w32 (ix2 r b)) = _
      rw [iota_single_apply]
      rfl
    rw [hp]
  · show Ideal.exp (Ideal.div (matmul (F := Ideal) (φ₁ := .f32) (φ₂ := .f32) dot_S2000x64_S64x1_S2000x1_1_0_0_1_n_n none _ w3 (constant S2000x1 .f32 0x00000000#32) (ix2 r 0))
      (shapeCast S2000x1 _ shapeCasts_S2000_S2000x1 (ix2 r 0))) = _
    congr 1
    unfold score
    congr 1
    · refine (Ideal.matmul_plain_apply none _ w3 _ r 0).trans ?_
      rw [constant_apply, Ideal.ofBits_zero_f32, zero_add]
      refine Finset.sum_congr rfl fun h _ => ?_
      rw [mulf_apply]
      congr 2
      · exact congrArg Ideal.tanh (hl w1 h)
      · exact congrArg Ideal.exp (hl w2 h)
    · rw [shapeCast_apply _ shapeCasts_S2000_S2000x1 (ix2 r 0) (ix1 r) (by rfl)]
      refine (Ideal.multiReduction_add_single _ _ _ _ _ _).trans ?_
      refine Finset.sum_congr rfl fun h _ => ?_
      refine Eq.trans ?_ (congrArg Ideal.exp (hl w2 h))
      refine congrArg (fun j => Ideal.exp (matmul (F := Ideal) (φ₁ := .f32) (φ₂ := .f32) dot_S2000x128_S128x64_S2000x64_1_0_0_1_n_n none x w2 (constant S2000x64 .f32 0x00000000#32) j)) ?_
      funext a; apply Fin.ext
      match a with
      | ⟨0, _⟩ => rfl
      | ⟨1, _⟩ => rfl
  · exact Ideal.ofBits_zero_f32

end Cert.KernelIdeal.Payload

end
-- ==== Proof.Fold.lean ====
module

public import proofs.«01_k».proof.Proof.Step
public import proofs.«01_k».proof.Proof.Payload
public import proofs.«01_k».proof.Proof.Gen.KernelIdeal.Value

@[expose] public section

set_option maxRecDepth 16384

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Step Cert.KernelIdeal.Payload

variable (m : (ℓ : Loc nD τ sig) → Buf (Elt Ideal) ℓ) (c : Dev nD)

/-- The rows of grid point `t`. -/
abbrev rows (t : Fin cfg0.N) : FVec Ideal S2000x128 .f32 := iblk m c 0 t

/-- What grid point `n` adds to entry `(b, d)` of the running sums; nothing past the last point. -/
def sumsTerm (b : Fin 64) (d : Fin 128) (n : ℕ) : EReal :=
  if h : n < cfg0.N then ∑ r : Fin 2000, weights m c ⟨n, h⟩ (ix2 r b) * rows m c ⟨n, h⟩ (ix2 r d) else 0

/-- What grid point `n` adds to entry `b` of the running weight sums; nothing past the last point. -/
def normsTerm (b : Fin 64) (n : ℕ) : EReal :=
  if h : n < cfg0.N then ∑ r : Fin 2000, weights m c ⟨n, h⟩ (ix2 r b) else 0

/-- Before the last point, the two running sums are the terms of the points so far added up. -/
theorem running (b : Fin 64) (d : Fin 128) : ∀ n (hn : n < cfg0.N), n ≠ 49 →
    (outsAt0 m c n hn).2.1 (ix2 b d) = ∑ i ∈ Finset.range (n + 1), sumsTerm m c b d i
      ∧ (outsAt0 m c n hn).2.2 (ix2 b 0) = ∑ i ∈ Finset.range (n + 1), normsTerm m c b i
  | 0, hn, _ => by
    have hA := outsAt0_A m c ⟨0, hn⟩ (Nat.zero_mod _) (show ¬(0 : ℕ) % 50 = 49 by decide)
    have hA' : outsAt0 m c 0 hn = _ := hA
    rw [hA']
    dsimp only
    rw [sums_first, norms_first, sums_apply, norms_apply, sums_start, norms_start, Finset.sum_range_one, Finset.sum_range_one,
      sumsTerm, normsTerm, dif_pos hn, dif_pos hn, zero_add, zero_add]
    exact ⟨rfl, rfl⟩
  | n + 1, hn, h49 => by
    have hN : cfg0.N = 50 := N_0
    have hB : outsAt0 m c (n + 1) hn = _ := outsAt0_B m c ⟨n + 1, hn⟩ (by dsimp only; omega) (by dsimp only; omega)
    obtain ⟨hs, hw⟩ := running b d n (Nat.lt_of_succ_lt hn) (by omega)
    rw [hB]
    dsimp only
    rw [sums_middle, norms_middle, sums_apply, norms_apply, Finset.sum_range_succ _ (n + 1), Finset.sum_range_succ _ (n + 1),
      ← hs, ← hw, sumsTerm, normsTerm, dif_pos hn, dif_pos hn]
    exact ⟨rfl, rfl⟩

/-- The kernel's result: the sum of weighted rows over the whole run, divided by the sum of weights held off zero. -/
theorem result_apply (b : Fin 64) (d : Fin 128) :
    Cert.KernelIdeal.Value.G6 m c (ix2 b d)
      = Ideal.div (∑ i ∈ Finset.range 50, sumsTerm m c b d i)
          (max (∑ i ∈ Finset.range 50, normsTerm m c b i) (Ideal.ofBits .f32 0x0DA24260#32)) := by
  have hN : 49 < cfg0.N := by rw [show cfg0.N = 50 from N_0]; omega
  have hC : outsAt0 m c 49 hN = _ := outsAt0_C m c ⟨49, hN⟩ (show ¬(49 : ℕ) % 50 = 0 by decide)
    (show (49 : ℕ) % 50 = 49 by decide)
  have hG : Cert.KernelIdeal.Value.G6 m c = (outsAt0 m c 49 hN).1 := by
    rw [Cert.KernelIdeal.Value.G6_last, Cert.KernelIdeal.Value.outsAt0_sweep]
  have h48 : 48 < cfg0.N := Nat.lt_of_succ_lt hN
  obtain ⟨hs, hw⟩ := running m c b d 48 h48 (by decide)
  rw [hG, hC]
  dsimp only
  rw [out_last, quotient_apply, sums_apply, norms_apply, Finset.sum_range_succ _ 49, Finset.sum_range_succ _ 49,
    ← hs, ← hw, sumsTerm, normsTerm, dif_pos hN, dif_pos hN]

end Cert.KernelIdeal.Fold

end
-- ==== Proof.Blocks.lean ====
module

public import proofs.«01_k».proof.Proof.Gen.KernelIdeal.Frame
public import Idealize.ShloMosaic.Lib.ValueIdx

@[expose] public section

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F] (m : (ℓ : Loc nD τ sig) → Buf (Elt F) ℓ) (c : Dev nD)

/-- The grid has one axis, so a point's coordinate is its number. -/
theorem coord_val : ∀ t : Fin cfg0.N, (grid0.coords t 0).val = t.val := by
  show ∀ t : Fin grid0.N, _
  decide

/-- The block of rows at point `t` starts at block index `(t, 0)`. -/
theorem rows_index : ∀ t : Fin cfg0.N, win0_0.index t 0 = t.val ∧ win0_0.index t 1 = 0 := by
  show ∀ t : Fin grid0.N, _
  decide

/-- The block of `x` at point `t` is its rows `2000 t` to `2000 t + 1999`. -/
theorem rows_apply (t : Fin cfg0.N) (r : Fin 2000) (k : Fin 128) (n : Fin 100000) (hn : n.val = 2000 * t.val + r.val) :
    (iblk m c 0 t : Vec F S2000x128 .f32) (ix2 r k) = m ((c : Thread nD τ).loc main_arg0) (ix2 n k) := by
  have hi := rows_index t
  unfold iblk
  rw [View.read_apply]
  show V m c main_arg0 _ = m (c.tc.loc main_arg0) _
  rw [V_main_arg0]
  congr 1
  funext a
  apply Fin.ext
  match a with
  | ⟨0, _⟩ => show win0_0.index t 0 * 2000 + 1 * r.val = n.val; rw [hi.1]; omega
  | ⟨1, _⟩ => show win0_0.index t 1 * 128 + 1 * k.val = k.val; rw [hi.2]; omega

/-- The window on the row of range starts covers its whole array at every point. -/
theorem starts_read (t : Fin cfg0.N) (f : Vec F S1x64 .i32) (j : S1x64.Idx) :
    ((win0_1.blk t).view.read (Elt F) f : Vec F S1x64 .i32) j = f j := by
  rw [View.read_apply]
  show f _ = f _
  congr 1
  funext a
  apply Fin.ext
  match a with
  | ⟨0, _⟩ => show 0 * 1 + 1 * (j 0).val = (j 0).val; omega
  | ⟨1, _⟩ => show 0 * 64 + 1 * (j 1).val = (j 1).val; omega

/-- The window on the row of range ends covers its whole array at every point. -/
theorem ends_read (t : Fin cfg0.N) (f : Vec F S1x64 .i32) (j : S1x64.Idx) :
    ((win0_2.blk t).view.read (Elt F) f : Vec F S1x64 .i32) j = f j := by
  rw [View.read_apply]
  show f _ = f _
  congr 1
  funext a
  apply Fin.ext
  match a with
  | ⟨0, _⟩ => show 0 * 1 + 1 * (j 0).val = (j 0).val; omega
  | ⟨1, _⟩ => show 0 * 64 + 1 * (j 1).val = (j 1).val; omega

/-- The window on the first transposed weights covers its whole array at every point. -/
theorem first_read (t : Fin cfg0.N) (f : Vec F S128x64 .f32) (j : S128x64.Idx) :
    ((win0_3.blk t).view.read (Elt F) f : Vec F S128x64 .f32) j = f j := by
  rw [View.read_apply]
  show f _ = f _
  congr 1
  funext a
  apply Fin.ext
  match a with
  | ⟨0, _⟩ => show 0 * 128 + 1 * (j 0).val = (j 0).val; omega
  | ⟨1, _⟩ => show 0 * 64 + 1 * (j 1).val = (j 1).val; omega

/-- The window on the second transposed weights covers its whole array at every point. -/
theorem second_read (t : Fin cfg0.N) (f : Vec F S128x64 .f32) (j : S128x64.Idx) :
    ((win0_4.blk t).view.read (Elt F) f : Vec F S128x64 .f32) j = f j := by
  rw [View.read_apply]
  show f _ = f _
  congr 1
  funext a
  apply Fin.ext
  match a with
  | ⟨0, _⟩ => show 0 * 128 + 1 * (j 0).val = (j 0).val; omega
  | ⟨1, _⟩ => show 0 * 64 + 1 * (j 1).val = (j 1).val; omega

/-- The window on the third transposed weights covers its whole array at every point. -/
theorem third_read (t : Fin cfg0.N) (f : Vec F S64x1 .f32) (j : S64x1.Idx) :
    ((win0_5.blk t).view.read (Elt F) f : Vec F S64x1 .f32) j = f j := by
  rw [View.read_apply]
  show f _ = f _
  congr 1
  funext a
  apply Fin.ext
  match a with
  | ⟨0, _⟩ => show 0 * 64 + 1 * (j 0).val = (j 0).val; omega
  | ⟨1, _⟩ => show 0 * 1 + 1 * (j 1).val = (j 1).val; omega

/-- The counts the host takes before the launch: entry `b` is how many entries of `batch` are below `b`. -/
def counts (batch : Vec F S100000 .i32) : Vec F S65 .i32 :=
  Host.reduce IntOp.addi
    (extui 32 (cmpi .slt
      (broadcastInDim S100000x65 ![0, 1] bcast_S100000x1_S100000x65_0_1
        (broadcastInDim S100000x1 ![0] bcast_S100000_S100000x1_0 batch))
      (broadcastInDim S100000x65 ![0, 1] bcast_S1x65_S100000x65_0_1
        (broadcastInDim S1x65 ![1] bcast_S65_S1x65_1 (iotaInDim S65 32 0)))) natLt_1_32)
    (constantI S_ 32 0#32) reducesTo_S100000x65_S65_d0 h_S_

/-- A called function's view of the buffer of `batch` is that buffer as it is, -/
theorem ofBuf_batch (h1 h2 h3) (v : Vec F S100000 .i32) :
    (StableHlo.TRef.of main_arg1 h1 h2 h3 : StableHlo.TRef sig ⟨S100000, .i32⟩).ofBuf (Val := Elt F) v = v := rfl

/-- so is its view of the bag numbers, -/
theorem ofBuf_iota (h1 h2 h3) (v : Vec F S65 .i32) :
    (StableHlo.TRef.of main_v0 h1 h2 h3 : StableHlo.TRef sig ⟨S65, .i32⟩).ofBuf (Val := Elt F) v = v := rfl

/-- and its result is put in its buffer as it is. -/
theorem toBuf_counts (h1 h2 h3) (v : Vec F S65 .i32) :
    (StableHlo.TRef.of main_v1 h1 h2 h3 : StableHlo.TRef sig ⟨S65, .i32⟩).toBuf (Val := Elt F) v = v := rfl

/-- What the launch finds in the row of range starts: the first 64 counts. -/
theorem V_starts : V m c main_v3 = shapeCast S1x64 (extractStridedSlice S64 ![0]
    (counts (F := F) (m ((c : Thread nD τ).loc main_arg1))) slices_S65_S64_0) shapeCasts_S64_S1x64 := by
  show StableHlo.after (List.flatten [hostOps0, hostOps0_1, hostOps0_2]) _ (Proc.devRef .tc main_v3) = _
  simp only [hostOps0, hostOps0_1, hostOps0_2, List.flatten_cons, List.flatten_nil, List.append_nil, List.cons_append,
    List.nil_append]
  after_results
  simp only [StableHlo.TRef.ofBuf_toBuf, ofBuf_batch, ofBuf_iota, toBuf_counts]
  rfl

/-- What the launch finds in the row of range ends: the last 64 counts. -/
theorem V_ends : V m c main_v5 = shapeCast S1x64 (extractStridedSlice S64 ![1]
    (counts (F := F) (m ((c : Thread nD τ).loc main_arg1))) slices_S65_S64_1) shapeCasts_S64_S1x64 := by
  show StableHlo.after (List.flatten [hostOps0, hostOps0_1, hostOps0_2]) _ (Proc.devRef .tc main_v5) = _
  simp only [hostOps0, hostOps0_1, hostOps0_2, List.flatten_cons, List.flatten_nil, List.append_nil, List.cons_append,
    List.nil_append]
  after_results
  simp only [StableHlo.TRef.ofBuf_toBuf, ofBuf_batch, ofBuf_iota, toBuf_counts]
  rfl

/-- The launch finds the first weights transposed, -/
theorem V_first : V m c main_v6 = transpose S128x64 [1, 0] (m ((c : Thread nD τ).loc main_arg2))
    transposes_S64x128_S128x64_1_0 := by
  show StableHlo.after (List.flatten [hostOps0, hostOps0_1, hostOps0_2]) _ (Proc.devRef .tc main_v6) = _
  simp only [hostOps0, hostOps0_1, hostOps0_2, List.flatten_cons, List.flatten_nil, List.append_nil, List.cons_append,
    List.nil_append]
  after_results

/-- the second weights transposed, -/
theorem V_second : V m c main_v7 = transpose S128x64 [1, 0] (m ((c : Thread nD τ).loc main_arg3))
    transposes_S64x128_S128x64_1_0 := by
  show StableHlo.after (List.flatten [hostOps0, hostOps0_1, hostOps0_2]) _ (Proc.devRef .tc main_v7) = _
  simp only [hostOps0, hostOps0_1, hostOps0_2, List.flatten_cons, List.flatten_nil, List.append_nil, List.cons_append,
    List.nil_append]
  after_results

/-- and the third weights transposed. -/
theorem V_third : V m c main_v8 = transpose S64x1 [1, 0] (m ((c : Thread nD τ).loc main_arg4))
    transposes_S1x64_S64x1_1_0 := by
  show StableHlo.after (List.flatten [hostOps0, hostOps0_1, hostOps0_2]) _ (Proc.devRef .tc main_v8) = _
  simp only [hostOps0, hostOps0_1, hostOps0_2, List.flatten_cons, List.flatten_nil, List.append_nil, List.cons_append,
    List.nil_append]
  after_results

end Cert.KernelIdeal.Blocks
-- ==== Proof.Count.lean ====
module

public import Mathlib.Data.Fintype.Card
public import Mathlib.Order.Monotone.Defs
public import Mathlib.Order.Interval.Finset.Fin
public import Mathlib.Algebra.BigOperators.Fin
public import Mathlib.Data.EReal.Operations

@[expose] public section

namespace Cert.Count

/-- In an increasing list, at most `n` entries are below `v` exactly when entry `n` is not. -/
theorem count_le_iff {N : ℕ} (f : Fin N → ℤ) (hf : Monotone f) (v : ℤ) (n : Fin N) :
    (Finset.univ.filter fun k => f k < v).card ≤ n.val ↔ v ≤ f n := by
  constructor
  · intro h
    by_contra hlt
    have hsub : Finset.Iic n ⊆ Finset.univ.filter fun k => f k < v := fun k hk =>
      Finset.mem_filter.2 ⟨Finset.mem_univ _, lt_of_le_of_lt (hf (Finset.mem_Iic.1 hk)) (not_le.1 hlt)⟩
    have := Finset.card_le_card hsub
    rw [Fin.card_Iic] at this
    omega
  · intro h
    have hsub : (Finset.univ.filter fun k => f k < v) ⊆ Finset.Iio n := fun k hk => by
      refine Finset.mem_Iio.2 (lt_of_not_ge fun hle => ?_)
      exact absurd (lt_of_lt_of_le (Finset.mem_filter.1 hk).2 (h.trans (hf hle))) (lt_irrefl _)
    have := Finset.card_le_card hsub
    rw [Fin.card_Iio] at this
    exact this

/-- In an increasing list, position `n` lies between the counts of entries below `v` and below `v + 1` exactly when
    entry `n` is `v`. -/
theorem between_counts_iff {N : ℕ} (f : Fin N → ℤ) (hf : Monotone f) (v : ℤ) (n : Fin N) :
    ((Finset.univ.filter fun k => f k < v).card ≤ n.val ∧ n.val < (Finset.univ.filter fun k => f k < v + 1).card)
      ↔ f n = v := by
  rw [count_le_iff f hf v n, ← not_le, count_le_iff f hf (v + 1) n]
  omega

/-- Adding up `T` blocks of `R` is adding up all `T * R`. -/
theorem sum_blocks {M : Type*} [AddCommMonoid M] {T R N : ℕ} (h : N = T * R) (f : Fin N → M) :
    ∑ t : Fin T, ∑ r : Fin R, f ⟨R * t.val + r.val, by
      have h1 : t.val * R + R ≤ T * R := by have := Nat.mul_le_mul_right R t.isLt; rw [Nat.succ_mul] at this; exact this
      have := r.isLt; rw [h, Nat.mul_comm R]; omega⟩ = ∑ n, f n := by
  subst h
  rw [← Fintype.sum_prod_type']
  refine Fintype.sum_equiv finProdFinEquiv _ _ fun p => ?_
  congr 1
  apply Fin.ext
  show R * p.1.val + p.2.val = p.2.val + R * p.1.val
  omega

/-- A list in which no entry exceeds the next is increasing. -/
theorem monotone_of_steps {N : ℕ} (f : Fin (N + 1) → ℤ) (h : ∀ n : Fin N, f n.castSucc ≤ f n.succ) : Monotone f :=
  Fin.monotone_iff_le_succ.2 h

end Cert.Count
-- ==== Proof.Score.lean ====
module

public import Idealize.ShloMosaic.Lib.ValueIdx

@[expose] public section

noncomputable section

open Idealize.ShloMosaic Idealize.ShloMosaic.ValueIdx

namespace Cert.Score

/-- Row `n` of the data against row `h` of a weight matrix. -/
def logitAt (x : (⟨2, ![100000, 128]⟩ : Shape).Idx → EReal) (w : (⟨2, ![64, 128]⟩ : Shape).Idx → EReal)
    (n : Fin 100000) (h : Fin 64) : EReal :=
  ∑ k : Fin 128, x (ix2 n k) * w (ix2 h k)

/-- The attention score of row `n`, the softmax over the hidden units written as one quotient. -/
def scoreAt (x : (⟨2, ![100000, 128]⟩ : Shape).Idx → EReal) (w1 w2 : (⟨2, ![64, 128]⟩ : Shape).Idx → EReal)
    (w3 : (⟨2, ![1, 64]⟩ : Shape).Idx → EReal) (n : Fin 100000) : EReal :=
  Ideal.div (∑ h : Fin 64, (Ideal.tanh (logitAt x w1 n h) * Ideal.exp (logitAt x w2 n h)) * w3 (ix2 0 h))
    (∑ h : Fin 64, Ideal.exp (logitAt x w2 n h))

/-- The bag of row `n`, read as a signed number. -/
def bag (batch : (⟨1, ![100000]⟩ : Shape).Idx → BitVec 32) (n : Fin 100000) : ℤ := (batch (ix1 n)).toInt

end Cert.Score

end
-- ==== Proof.Rows.lean ====
module

public import proofs.«01_k».proof.Proof.Fold
public import proofs.«01_k».proof.Proof.Blocks
public import proofs.«01_k».proof.Proof.Count
public import proofs.«01_k».proof.Proof.Score
public import Idealize.ShloMosaic.Lib.StableHlo.Predicate
public import Idealize.ShloMosaic.Lib.WordCmp
public import Idealize.ShloMosaic.Lib.ValueLayout

@[expose] public section

set_option maxRecDepth 16384

noncomputable section

open Idealize.ShloMosaic Idealize.ShloMosaic.TcCoe Idealize.SL.Sem Idealize.ShloMosaic.ValueIdx

namespace Cert.KernelIdeal.Rows

open Cert.KernelIdeal Cert.KernelIdeal.Gen Cert.KernelIdeal.Step Cert.KernelIdeal.Payload Cert.KernelIdeal.Blocks
open Cert.KernelIdeal.Fold Cert.Score

/-- A list of row words spread over the bag numbers, at an element. -/
theorem rows_spread_apply (v : IVec S100000 32) (p : Fin 100000) (q : Fin 65) :
    broadcastInDim S100000x65 ![0, 1] bcast_S100000x1_S100000x65_0_1
      (broadcastInDim S100000x1 ![0] bcast_S100000_S100000x1_0 v) (ix2 p q) = v (ix1 p) :=
  congrArg v (funext fun a => match a with | ⟨0, _⟩ => rfl)

/-- A list of bag words spread over the rows, at an element. -/
theorem bags_spread_apply (v : IVec S65 32) (p : Fin 100000) (q : Fin 65) :
    broadcastInDim S100000x65 ![0, 1] bcast_S1x65_S100000x65_0_1
      (broadcastInDim S1x65 ![1] bcast_S65_S1x65_1 v) (ix2 p q) = v (ix1 q) :=
  congrArg v (funext fun a => match a with | ⟨0, _⟩ => rfl)

/-- Entry `q` of the host's counts is the number of rows whose bag is below `q`. -/
theorem counts_apply (batch : Vec Ideal S100000 .i32) (q : Fin 65) :
    (counts (F := Ideal) batch (ix1 q)).toNat = (Finset.univ.filter fun n => bag batch n < (q.val : ℤ)).card := by
  unfold counts
  refine (StableHlo.Predicate.toNat_reduce_count_rows (by norm_num) _ natLt_1_32 reducesTo_S100000x65_S65_d0 h_S_ (ix1 q)).trans ?_
  refine congrArg Finset.card (Finset.filter_congr fun p _ => ?_)
  have e : (StableHlo.Predicate.ij p (ix1 q 0) : S100000x65.Idx) = ix2 p q := funext fun a => match a with
    | ⟨0, _⟩ => rfl
    | ⟨1, _⟩ => rfl
  rw [e]
  show IntOp.cmpi .slt _ _ = 1#1 ↔ _
  rw [rows_spread_apply, bags_spread_apply, WordCmp.cmpi_slt_eq, WordCmp.ofBool_decide_eq_one_iff]
  show _ < (BitVec.ofNat 32 q.val).toInt ↔ _
  rw [WordCmp.toInt_ofNat_of_lt (by have := q.isLt; omega)]
  rfl

/-- No count exceeds the number of rows. -/
theorem counts_le (batch : Vec Ideal S100000 .i32) (q : Fin 65) : (counts (F := Ideal) batch (ix1 q)).toNat ≤ 100000 := by
  rw [counts_apply]
  exact (Finset.card_le_univ _).trans (by simp)

variable (m : (ℓ : Loc nD τ sig) → Buf (Elt Ideal) ℓ) (c : Dev nD)

/-- The start of bag `b`'s range at every grid point. -/
theorem starts_at (t : Fin cfg0.N) (b : Fin 64) : (iblk m c 1 t : Vec Ideal S1x64 .i32) (ix2 0 b)
    = counts (F := Ideal) (m ((c : Thread nD τ).loc main_arg1)) (ix1 ⟨b.val, by have := b.isLt; omega⟩) := by
  refine (starts_read t (V m c main_v3) (ix2 0 b)).trans ?_
  rw [V_starts, shapeCast_apply _ shapeCasts_S64_S1x64 (ix2 0 b) (ix1 b) (by
    rw [Shape.rowMajor_val_one, Shape.rowMajor_val_two]; show b.val = 0 * 64 + b.val; omega)]
  exact extractStridedSlice_apply _ _ slices_S65_S64_0 (ix1 b) _ fun a => match a with
    | ⟨0, _⟩ => by show b.val = 0 + b.val; omega

/-- The end of bag `b`'s range at every grid point. -/
theorem ends_at (t : Fin cfg0.N) (b : Fin 64) : (iblk m c 2 t : Vec Ideal S1x64 .i32) (ix2 0 b)
    = counts (F := Ideal) (m ((c : Thread nD τ).loc main_arg1)) (ix1 ⟨b.val + 1, by have := b.isLt; omega⟩) := by
  refine (ends_read t (V m c main_v5) (ix2 0 b)).trans ?_
  rw [V_ends, shapeCast_apply _ shapeCasts_S64_S1x64 (ix2 0 b) (ix1 b) (by
    rw [Shape.rowMajor_val_one, Shape.rowMajor_val_two]; show b.val = 0 * 64 + b.val; omega)]
  exact extractStridedSlice_apply _ _ slices_S65_S64_1 (ix1 b) _ fun a => match a with
    | ⟨0, _⟩ => by show b.val + 1 = 1 + b.val; omega

/-- Where the rows are in order of their bags, the range test of row `n` for bag `b` asks whether row `n` is in bag `b`. -/
theorem in_range_iff (batch : Vec Ideal S100000 .i32) (hs : Monotone (bag batch)) (t : Fin 50) (r : Fin 2000)
    (n : Fin 100000) (hn : n.val = 2000 * t.val + r.val) (b : Fin 64) :
    IntOp.andi
        (IntOp.cmpi .sge (IntOp.addi (IntOp.muli (BitVec.ofNat 32 t.val) 2000#32) (BitVec.ofNat 32 r.val))
          (counts (F := Ideal) batch (ix1 ⟨b.val, by have := b.isLt; omega⟩)))
        (IntOp.cmpi .slt (IntOp.addi (IntOp.muli (BitVec.ofNat 32 t.val) 2000#32) (BitVec.ofNat 32 r.val))
          (counts (F := Ideal) batch (ix1 ⟨b.val + 1, by have := b.isLt; omega⟩)))
      = BitVec.ofBool (decide (bag batch n = (b.val : ℤ))) := by
  have hpos : IntOp.addi (IntOp.muli (BitVec.ofNat 32 t.val) 2000#32) (BitVec.ofNat 32 r.val) = BitVec.ofNat 32 n.val := by
    rw [hn]
    show BitVec.ofNat 32 t.val * BitVec.ofNat 32 2000 + BitVec.ofNat 32 r.val = _
    rw [← BitVec.ofNat_mul, ← BitVec.ofNat_add, Nat.mul_comm]
  have hlt := n.isLt
  have h0 := counts_le batch ⟨b.val, by have := b.isLt; omega⟩
  have h1 := counts_le batch ⟨b.val + 1, by have := b.isLt; omega⟩
  rw [hpos, WordCmp.cmpi_sge_eq, WordCmp.cmpi_slt_eq, WordCmp.andi_ofBool, WordCmp.toInt_ofNat_of_lt (by omega),
    WordCmp.toInt_eq_toNat_of_lt_half (by omega), WordCmp.toInt_eq_toNat_of_lt_half (by omega), counts_apply, counts_apply,
    ← Bool.decide_and]
  refine congrArg BitVec.ofBool (decide_eq_decide.2 ?_)
  rw [← Cert.Count.between_counts_iff (bag batch) hs b.val n]
  push_cast
  exact and_congr Nat.cast_le Nat.cast_lt

/-- The score of row `r` of the block at point `t` is that row's score in the whole array. -/
theorem score_at (t : Fin cfg0.N) (r : Fin 2000) (n : Fin 100000) (hn : n.val = 2000 * t.val + r.val) :
    score (iblk m c 0 t) (iblk m c 3 t) (iblk m c 4 t) (iblk m c 5 t) r
      = scoreAt (m ((c : Thread nD τ).loc main_arg0)) (m ((c : Thread nD τ).loc main_arg2))
          (m ((c : Thread nD τ).loc main_arg3)) (m ((c : Thread nD τ).loc main_arg4)) n := by
  have h1 : ∀ h, logit (iblk m c 0 t) (iblk m c 3 t) r h
      = logitAt (m ((c : Thread nD τ).loc main_arg0)) (m ((c : Thread nD τ).loc main_arg2)) n h := fun h => by
    unfold logit logitAt
    refine Finset.sum_congr rfl fun k _ => ?_
    refine congrArg₂ (fun y z : EReal => y * z) (rows_apply m c t r k n hn) ((first_read t (V m c main_v6) (ix2 k h)).trans ?_)
    rw [V_first]
    exact transpose_ix2_apply _ transposes_S64x128_S128x64_1_0 k h
  have h2 : ∀ h, logit (iblk m c 0 t) (iblk m c 4 t) r h
      = logitAt (m ((c : Thread nD τ).loc main_arg0)) (m ((c : Thread nD τ).loc main_arg3)) n h := fun h => by
    unfold logit logitAt
    refine Finset.sum_congr rfl fun k _ => ?_
    refine congrArg₂ (fun y z : EReal => y * z) (rows_apply m c t r k n hn) ((second_read t (V m c main_v7) (ix2 k h)).trans ?_)
    rw [V_second]
    exact transpose_ix2_apply _ transposes_S64x128_S128x64_1_0 k h
  have h3 : ∀ h : Fin 64, (iblk m c 5 t : Vec Ideal S64x1 .f32) (ix2 h 0) = m ((c : Thread nD τ).loc main_arg4) (ix2 0 h) := fun h => by
    refine (third_read t (V m c main_v8) (ix2 h 0)).trans ?_
    rw [V_third]
    exact transpose_ix2_apply _ transposes_S1x64_S64x1_1_0 h 0
  unfold score scoreAt
  simp only [h1, h2, h3]

/-- The masked weight of row `n` for bag `b`. -/
theorem weights_at (hs : Monotone (bag (m ((c : Thread nD τ).loc main_arg1)))) (t : Fin cfg0.N) (r : Fin 2000) (n : Fin 100000)
    (hn : n.val = 2000 * t.val + r.val) (b : Fin 64) :
    weights m c t (ix2 r b) = if bag (m ((c : Thread nD τ).loc main_arg1)) n = (b.val : ℤ) then
      Ideal.exp (scoreAt (m ((c : Thread nD τ).loc main_arg0)) (m ((c : Thread nD τ).loc main_arg2))
          (m ((c : Thread nD τ).loc main_arg3)) (m ((c : Thread nD τ).loc main_arg4)) n) else 0 := by
  unfold weights
  rw [weights_apply, starts_at, ends_at, coord_val, score_at m c t r n hn]
  have ht : t.val < 50 := t.isLt
  rw [in_range_iff _ hs ⟨t.val, ht⟩ r n hn b]
  by_cases h : bag (m ((c : Thread nD τ).loc main_arg1)) n = (b.val : ℤ)
  · rw [if_pos h, decide_eq_true h]; rfl
  · rw [if_neg h, decide_eq_false h]; rfl

/-- The kernel's result over whole arrays, the rows in order of their bags: per bag, the sum over its rows of the row
    weighted by the exponential of its score, divided by the sum of those weights held off zero. -/
theorem kernel_apply (hs : Monotone (bag (m ((c : Thread nD τ).loc main_arg1)))) (b : Fin 64) (d : Fin 128) :
    Cert.KernelIdeal.Value.G6 m c (ix2 b d)
      = Ideal.div
          (∑ n : Fin 100000, (if bag (m ((c : Thread nD τ).loc main_arg1)) n = (b.val : ℤ) then
            Ideal.exp (scoreAt (m ((c : Thread nD τ).loc main_arg0)) (m ((c : Thread nD τ).loc main_arg2))
              (m ((c : Thread nD τ).loc main_arg3)) (m ((c : Thread nD τ).loc main_arg4)) n) else 0)
            * m ((c : Thread nD τ).loc main_arg0) (ix2 n d))
          (max (∑ n : Fin 100000, (if bag (m ((c : Thread nD τ).loc main_arg1)) n = (b.val : ℤ) then
            Ideal.exp (scoreAt (m ((c : Thread nD τ).loc main_arg0)) (m ((c : Thread nD τ).loc main_arg2))
              (m ((c : Thread nD τ).loc main_arg3)) (m ((c : Thread nD τ).loc main_arg4)) n) else 0))
            (Ideal.ofBits .f32 0x0DA24260#32)) := by
  rw [result_apply, Finset.sum_range, Finset.sum_range]
  refine congrArg₂ Ideal.div ?_ (congrArg (max · _) ?_)
  · refine Eq.trans ?_ (Cert.Count.sum_blocks (T := 50) (R := 2000) (N := 100000) (by norm_num) _)
    refine Finset.sum_congr rfl fun t _ => ?_
    have ht : t.val < cfg0.N := t.isLt
    rw [sumsTerm, dif_pos ht]
    refine Finset.sum_congr rfl fun r _ => ?_
    have hn : 2000 * t.val + r.val < 100000 := by have := t.isLt; have := r.isLt; omega
    rw [weights_at m c hs ⟨t.val, ht⟩ r ⟨2000 * t.val + r.val, hn⟩ rfl b]
    exact congrArg (fun y : EReal => _ * y) (rows_apply m c ⟨t.val, ht⟩ r d ⟨2000 * t.val + r.val, hn⟩ rfl)
  · refine Eq.trans ?_ (Cert.Count.sum_blocks (T := 50) (R := 2000) (N := 100000) (by norm_num) _)
    refine Finset.sum_congr rfl fun t _ => ?_
    have ht : t.val < cfg0.N := t.isLt
    rw [normsTerm, dif_pos ht]
    refine Finset.sum_congr rfl fun r _ => ?_
    have hn : 2000 * t.val + r.val < 100000 := by have := t.isLt; have := r.isLt; omega
    rw [weights_at m c hs ⟨t.val, ht⟩ r ⟨2000 * t.val + r.val, hn⟩ rfl b]

end Cert.KernelIdeal.Rows

end
-- ==== Proof.Landing.lean ====
module

public import proofs.«01_k».proof.Proof.Gen.ReferenceIdeal.Read
public import proofs.«01_k».proof.Proof.Score
public import Idealize.ShloMosaic.Lib.StableHlo.Predicate
public import Idealize.ShloMosaic.Lib.Routing.OpsPair
public import Idealize.ShloMosaic.Lib.WordCmp

@[expose] public section

set_option maxRecDepth 16384

noncomputable section

open Idealize.ShloMosaic Idealize.ShloMosaic.TcCoe Idealize.SL.Sem Idealize.ShloMosaic.ValueIdx

namespace Cert.ReferenceIdeal.Landing

open Cert.ReferenceIdeal Cert.ReferenceIdeal.Gen Cert.Score

/-- A column of row words read at a row. -/
theorem column_apply (v : IVec S100000 32) (n : Fin 100000) :
    broadcastInDim S100000x1 ![0] bcast_S100000_S100000x1_0 v (ix2 n 0) = v (ix1 n) :=
  congrArg v (funext fun a => match a with | ⟨0, _⟩ => rfl)

/-- Row `n` of a list of row values is added into bag `b` exactly when its index word, read signed, is `b`. -/
theorem lands_one (idx : IVec S100000x1 32) (n : Fin 100000) (b : Fin 64) :
    scatter_S64_S100000x1_S100000_n_0_0_1.resultIdx? (ix1 n) idx = some (ix1 b) ↔ (idx (ix2 n 0)).toInt = (b.val : ℤ) := by
  have hw : scatter_S64_S100000x1_S100000_n_0_0_1.window (ix1 n) 0 = 0 := by
    unfold ScatterDims.window
    rw [dif_neg (by decide)]
  have hs : scatter_S64_S100000x1_S100000_n_0_0_1.start (ix1 n) idx 0 = (idx (ix2 n 0)).toInt := by
    unfold ScatterDims.start
    rw [dif_pos (by decide)]
    refine congrArg (fun i => (idx i).toInt) (funext fun a => Fin.ext ?_)
    match a with
    | ⟨0, _⟩ =>
      unfold ScatterDims.siIdx
      rw [dif_neg (by show ¬(0 : ℕ) = 1; decide)]
      unfold ScatterDims.siCoord
      rw [Fin.val_cast]
      have e : ∀ X : Fin 1, ((ix1 n : S100000.Idx) X).val = n.val := fun X => by
        rw [Subsingleton.elim X 0]
      exact e _
    | ⟨1, _⟩ => rfl
  refine (Routing.resultIdx?_ix1 scatter_S64_S100000x1_S100000_n_0_0_1 (ix1 n) idx b).trans ?_
  rw [hw, hs]
  simp

/-- Element `(n, d)` of an array of rows is added into element `(b, e)` exactly when the row's index word, read signed, is
    `b` and the two columns agree. -/
theorem lands_rows (idx : IVec S100000x1 32) (n : Fin 100000) (d : Fin 128) (b : Fin 64) (e : Fin 128) :
    scatter_S64x128_S100000x1_S100000x128_1_0_0_1.resultIdx? (ix2 n d) idx = some (ix2 b e)
      ↔ (idx (ix2 n 0)).toInt = (b.val : ℤ) ∧ d = e := by
  have hw0 : scatter_S64x128_S100000x1_S100000x128_1_0_0_1.window (ix2 n d) 0 = 0 := by
    unfold ScatterDims.window
    rw [dif_neg (by decide)]
  have hw1 : scatter_S64x128_S100000x1_S100000x128_1_0_0_1.window (ix2 n d) 1 = d.val := by
    unfold ScatterDims.window
    rw [dif_pos (by decide)]
    rfl
  have hs1 : scatter_S64x128_S100000x1_S100000x128_1_0_0_1.start (ix2 n d) idx 1 = 0 := by
    unfold ScatterDims.start
    rw [dif_neg (by decide)]
  have hs0 : scatter_S64x128_S100000x1_S100000x128_1_0_0_1.start (ix2 n d) idx 0 = (idx (ix2 n 0)).toInt := by
    unfold ScatterDims.start
    rw [dif_pos (by decide)]
    refine congrArg (fun i => (idx i).toInt) (funext fun a => Fin.ext ?_)
    match a with
    | ⟨0, _⟩ =>
      unfold ScatterDims.siIdx
      rw [dif_neg (by show ¬(0 : ℕ) = 1; decide)]
      unfold ScatterDims.siCoord
      rw [Fin.val_cast]
      rfl
    | ⟨1, _⟩ => rfl
  refine (Routing.resultIdx?_ix2 scatter_S64x128_S100000x1_S100000x128_1_0_0_1 (ix2 n d) idx b e).trans ?_
  rw [hw0, hw1, hs0, hs1]
  simp [Fin.ext_iff]

/-- The row values added up per bag, at a bag. -/
theorem scatter_one_apply (idx : IVec S100000x1 32) (u : FVec Ideal S100000 .f32) (z : FVec Ideal S64 .f32) (b : Fin 64) :
    Host.scatterAdd scatter_S64_S100000x1_S100000_n_0_0_1 z idx u (ix1 b)
      = z (ix1 b) + ∑ n ∈ Finset.univ.filter fun n => (idx (ix2 n 0)).toInt = (b.val : ℤ), u (ix1 n) := by
  show Ideal.hostScatterAdd _ _ _ _ _ = _
  rw [Ideal.hostScatterAdd]
  refine congrArg (_ + ·) ?_
  refine Finset.sum_bij' (fun j _ => j 0) (fun n _ => ix1 n) ?_ ?_ ?_ ?_ ?_
  · intro j hj
    have h := (Finset.mem_filter.1 hj).2
    rw [eq_ix1 j] at h
    exact Finset.mem_filter.2 ⟨Finset.mem_univ _, (lands_one idx _ b).1 h⟩
  · intro n hn
    exact Finset.mem_filter.2 ⟨Finset.mem_univ _, (lands_one idx n b).2 (Finset.mem_filter.1 hn).2⟩
  · intro j _; exact (eq_ix1 j).symm
  · intro n _; rfl
  · intro j _; exact congrArg u (eq_ix1 j)

/-- The rows added up per bag, at an element. -/
theorem scatter_rows_apply (idx : IVec S100000x1 32) (u : FVec Ideal S100000x128 .f32) (z : FVec Ideal S64x128 .f32) (b : Fin 64) (d : Fin 128) :
    Host.scatterAdd scatter_S64x128_S100000x1_S100000x128_1_0_0_1 z idx u (ix2 b d)
      = z (ix2 b d) + ∑ n ∈ Finset.univ.filter fun n => (idx (ix2 n 0)).toInt = (b.val : ℤ), u (ix2 n d) := by
  show Ideal.hostScatterAdd _ _ _ _ _ = _
  rw [Ideal.hostScatterAdd]
  refine congrArg (_ + ·) ?_
  have hland : ∀ j : S100000x128.Idx, j ∈ (Finset.univ.filter fun j => scatter_S64x128_S100000x1_S100000x128_1_0_0_1.resultIdx? j idx = some (ix2 b d)) →
      (idx (ix2 (j 0) 0)).toInt = (b.val : ℤ) ∧ j = ix2 (j 0) d := fun j hj => by
    have h := (Finset.mem_filter.1 hj).2
    rw [eq_ix2 j] at h
    have h' := (lands_rows idx _ _ b d).1 h
    exact ⟨h'.1, (eq_ix2 j).trans (congrArg (ix2 (j 0)) h'.2)⟩
  refine Finset.sum_bij' (fun j _ => j 0) (fun n _ => ix2 n d) ?_ ?_ ?_ ?_ ?_
  · intro j hj
    exact Finset.mem_filter.2 ⟨Finset.mem_univ _, (hland j hj).1⟩
  · intro n hn
    exact Finset.mem_filter.2 ⟨Finset.mem_univ _, (lands_rows idx n d b d).2 ⟨(Finset.mem_filter.1 hn).2, rfl⟩⟩
  · intro j hj; exact (hland j hj).2.symm
  · intro n _; rfl
  · intro j hj; exact congrArg u (hland j hj).2

/-- A table of bag values read at row `n`'s index word: where the word is a bag number, that bag's value. -/
theorem take_apply (v : FVec Ideal S64 .f32) (idx : IVec S100000x1 32) (n : Fin 100000) (b : Fin 64)
    (h : (idx (ix2 n 0)).toInt = (b.val : ℤ)) :
    Host.gather gather_S64_S100000x1_S100000_n_0_n_n_0_1_1 v idx (ix1 n) = v (ix1 b) := by
  have e1 : (ix1 n : S100000.Idx) = Shape.Idx.ofFin n := (Routing.ofFin_eq_ix1 n).symm
  have e2 : (StableHlo.Predicate.ixP n : S100000x1.Idx) = ix2 n 0 := funext fun a => match a with
    | ⟨0, _⟩ => rfl
    | ⟨1, _⟩ => rfl
  rw [e1]
  refine (StableHlo.Predicate.gather_take gather_S64_S100000x1_S100000_n_0_n_n_0_1_1 rfl rfl rfl rfl v idx n (by norm_num)).trans ?_
  refine congrArg v ((Routing.ofFin_eq_ix1 _).trans (congrArg ix1 (Fin.ext ?_)))
  show min (idx (StableHlo.Predicate.ixP n)).toInt.toNat (64 - 1) = b.val
  rw [e2, h]
  have := b.isLt
  omega

/-- A row word that is a bag number is not moved by the wrap of negative numbers. -/
theorem wrap_eq (w a : BitVec 32) (b : Fin 64) (h : w.toInt = (b.val : ℤ)) :
    Scalar.select (IntOp.cmpi .slt w 0#32) a w = w := by
  rw [WordCmp.cmpi_slt_eq, h]
  have hz : ¬((b.val : ℤ) < (0#32 : BitVec 32).toInt) := by
    rw [show (0#32 : BitVec 32).toInt = 0 from rfl]
    omega
  rw [decide_eq_false hz]
  rfl

end Cert.ReferenceIdeal.Landing

end
-- ==== Proof.Pool.lean ====
module

public import Idealize.ShloMosaic.PureOps.Ideal
public import Mathlib.Analysis.Complex.Exponential
public import Mathlib.Analysis.Complex.Trigonometric
public import Mathlib.Data.Finset.Fold
public import Mathlib.Data.Finset.Lattice.Fold

@[expose] public section

noncomputable section

open Idealize.ShloMosaic

namespace Cert.Pool

/-- A finite sum of real numbers is the same sum among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero, is their real quotient. -/
theorem div_real (a : ℝ) {b : ℝ} (hb : b ≠ 0) : Ideal.div (a : EReal) (b : EReal) = ((a / b : ℝ) : EReal) := by
  rw [Ideal.div_coe hb, ← EReal.coe_mul, mul_one_div]

/-- A hyperbolic tangent is a real number between minus one and one, whatever it is taken of. -/
theorem tanh_real (y : EReal) : ∃ t : ℝ, Ideal.tanh y = (t : EReal) ∧ |t| ≤ 1 := by
  induction y using EReal.rec with
  | bot => exact ⟨-1, by simp, by simp⟩
  | top => exact ⟨1, by simp, by simp⟩
  | coe r => exact ⟨Real.tanh r, rfl, (Real.abs_tanh_lt_one r).le⟩

/-- The largest of finitely many values, none of them infinite upward and at least one of them not infinite downward, is real. -/
theorem fold_max_real {ι : Type*} (s : Finset ι) (f : ι → EReal) (htop : ∀ i ∈ s, f i ≠ ⊤) (i₀ : ι) (hi₀ : i₀ ∈ s) (h₀ : f i₀ ≠ ⊥) :
    ∃ r : ℝ, s.fold max ⊥ f = (r : EReal) := by
  have h1 : s.fold max ⊥ f < ⊤ := (Finset.fold_max_lt (c := ⊤)).2 ⟨bot_lt_top, fun i hi => lt_top_iff_ne_top.2 (htop i hi)⟩
  have h2 : ⊥ < s.fold max ⊥ f := (Finset.lt_fold_max (c := ⊥)).2 (Or.inr ⟨i₀, hi₀, bot_lt_iff_ne_bot.2 h₀⟩)
  exact ⟨_, (EReal.coe_toReal h1.ne h2.ne').symm⟩

section Softmax

variable {ι : Type*} [Fintype ι] (t l w : ι → ℝ)

/-- The softmax-weighted sum as one real quotient. -/
def mean : ℝ := (∑ h, t h * Real.exp (l h) * w h) / ∑ h, Real.exp (l h)

variable [Nonempty ι]

/-- A sum of exponentials is positive. -/
theorem sum_exp_pos : 0 < ∑ h, Real.exp (l h) :=
  Finset.sum_pos (fun h _ => Real.exp_pos _) Finset.univ_nonempty

/-- The quotient of the two sums, as formed among the extended reals. -/
theorem mean_quotient :
    Ideal.div (∑ h, ((t h : EReal) * Ideal.exp (l h : EReal)) * (w h : EReal)) (∑ h, Ideal.exp (l h : EReal))
      = (mean t l w : EReal) := by
  have hn : ∀ h, ((t h : EReal) * Ideal.exp (l h : EReal)) * (w h : EReal) = ((t h * Real.exp (l h) * w h : ℝ) : EReal) := fun h => by
    rw [Ideal.exp_coe, EReal.coe_mul, EReal.coe_mul]
  simp only [hn]
  simp only [Ideal.exp_coe, coe_sum]
  exact div_real _ (sum_exp_pos l).ne'

/-- The softmax with any real number taken off every logit, each weight divided by itself, comes to the same. -/
theorem mean_shifted (M : ℝ) :
    ∑ h, ((t h : EReal) * Ideal.div (Ideal.exp ((l h : EReal) - (M : EReal))) (0 + ∑ h', Ideal.exp ((l h' : EReal) - (M : EReal)))) * (w h : EReal)
      = (mean t l w : EReal) := by
  have hs := sum_exp_pos fun h => l h - M
  simp only [← EReal.coe_sub, Ideal.exp_coe, coe_sum, zero_add]
  have hn : ∀ h, ((t h : EReal) * Ideal.div ((Real.exp (l h - M) : ℝ) : EReal) ((∑ h', Real.exp (l h' - M) : ℝ) : EReal)) * (w h : EReal)
      = ((t h * (Real.exp (l h - M) / ∑ h', Real.exp (l h' - M)) * w h : ℝ) : EReal) := fun h => by
    rw [div_real _ hs.ne', EReal.coe_mul, EReal.coe_mul]
  simp only [hn, coe_sum]
  congr 1
  unfold mean
  have hp := sum_exp_pos l
  have he : ∀ h, Real.exp (l h - M) / ∑ h', Real.exp (l h' - M) = Real.exp (l h) / ∑ h', Real.exp (l h') := fun h => by
    simp only [Real.exp_sub]
    rw [← Finset.sum_div, div_div_div_cancel_right₀ (Real.exp_pos M).ne']
  simp only [he]
  rw [Finset.sum_div]
  exact Finset.sum_congr rfl fun h _ => by ring

/-- A weighted mean of values of size at most `C` has size at most `C`. -/
theorem abs_mean_le (C : ℝ) (ht : ∀ h, |t h| ≤ 1) (hw : ∀ h, |w h| ≤ C) : |mean t l w| ≤ C := by
  have hp := sum_exp_pos l
  unfold mean
  rw [abs_div, abs_of_pos hp, div_le_iff₀ hp, Finset.mul_sum]
  refine (Finset.abs_sum_le_sum_abs _ _).trans (Finset.sum_le_sum fun h _ => ?_)
  rw [abs_mul, abs_mul, abs_of_pos (Real.exp_pos _)]
  have h1 := mul_le_of_le_one_left (Real.exp_pos (l h)).le (ht h)
  calc |t h| * Real.exp (l h) * |w h| ≤ Real.exp (l h) * |w h| := mul_le_mul_of_nonneg_right h1 (abs_nonneg _)
    _ ≤ Real.exp (l h) * C := mul_le_mul_of_nonneg_left (hw h) (Real.exp_pos _).le
    _ = C * Real.exp (l h) := mul_comm _ _

end Softmax

/-- The number the kernel holds its divisor above is a real number, positive, and at most the smallest weight a row can have. -/
theorem floor_word : ∃ ε : ℝ, Ideal.ofBits .f32 0x0DA24260#32 = (ε : EReal) ∧ 0 < ε ∧ ε ≤ Real.exp (-69) := by
  refine ⟨10633824 / 2 ^ 123, ?_, by norm_num, ?_⟩
  · simp [Ideal.ofBits, Ideal.ieee, -EReal.coe_mul]
    norm_num
  · have h : Real.exp 1 ≤ 2.7183 := by
      refine (Real.exp_bound' zero_le_one le_rfl (n := 9) (by norm_num)).trans ?_
      norm_num [Finset.sum_range_succ, Nat.factorial]
    have h0 := Real.exp_pos 1
    have h69 : Real.exp 69 = Real.exp 1 ^ 69 := by rw [← Real.exp_nat_mul]; norm_num
    rw [Real.exp_neg, h69, le_inv_comm₀ (by norm_num) (by positivity)]
    calc Real.exp 1 ^ 69 ≤ (2.7183 : ℝ) ^ 69 := pow_le_pow_left₀ h0.le h 69
      _ ≤ _ := by norm_num

section Bag

variable {ι : Type*} [Fintype ι] (p : ι → Prop) [DecidablePred p] (a x : ι → ℝ)

/-- A bag's pooled value, the weights divided after the sum with the divisor held above `ε`, against each weight divided by
    their sum first and with any real number taken off every score: the same where no weight is below `ε`. -/
theorem pooled_eq (ε : ℝ) (hε : 0 < ε) (ha : ∀ n, ε ≤ Real.exp (a n)) (M : EReal)
    (hM : ∀ n, p n → ∃ r : ℝ, M = (r : EReal)) :
    Ideal.div (∑ n, (if p n then Ideal.exp (a n : EReal) else 0) * (x n : EReal))
        (max (∑ n, if p n then Ideal.exp (a n : EReal) else 0) (ε : EReal))
      = 0 + ∑ n ∈ Finset.univ.filter p, (x n : EReal) * Ideal.div (Ideal.exp ((a n : EReal) - M))
          (0 + ∑ k ∈ Finset.univ.filter p, Ideal.exp ((a k : EReal) - M)) := by
  have hl : ∑ n, (if p n then Ideal.exp (a n : EReal) else 0) * (x n : EReal)
      = ((∑ n ∈ Finset.univ.filter p, Real.exp (a n) * x n : ℝ) : EReal) := by
    rw [← coe_sum, Finset.sum_filter]
    refine Finset.sum_congr rfl fun n _ => ?_
    split
    · rw [Ideal.exp_coe, EReal.coe_mul]
    · rw [zero_mul]
  have hd : (∑ n, if p n then Ideal.exp (a n : EReal) else 0) = ((∑ n ∈ Finset.univ.filter p, Real.exp (a n) : ℝ) : EReal) := by
    rw [← coe_sum, Finset.sum_filter]
    rfl
  rw [hl, hd, zero_add, zero_add]
  by_cases he : ∃ n, p n
  · obtain ⟨n₀, hn₀⟩ := he
    obtain ⟨r, rfl⟩ := hM n₀ hn₀
    have hmem : n₀ ∈ Finset.univ.filter p := Finset.mem_filter.2 ⟨Finset.mem_univ _, hn₀⟩
    have hge : ε ≤ ∑ n ∈ Finset.univ.filter p, Real.exp (a n) :=
      (ha n₀).trans (Finset.single_le_sum (f := fun n => Real.exp (a n)) (fun n _ => (Real.exp_pos _).le) hmem)
    have hpos : 0 < ∑ n ∈ Finset.univ.filter p, Real.exp (a n) := hε.trans_le hge
    have hpos' : 0 < ∑ n ∈ Finset.univ.filter p, Real.exp (a n - r) :=
      Finset.sum_pos (fun n _ => Real.exp_pos _) ⟨n₀, hmem⟩
    rw [max_eq_left (EReal.coe_le_coe_iff.2 hge), div_real _ hpos.ne']
    simp only [← EReal.coe_sub, Ideal.exp_coe, coe_sum]
    have hn : ∀ n, (x n : EReal) * Ideal.div ((Real.exp (a n - r) : ℝ) : EReal) ((∑ k ∈ Finset.univ.filter p, Real.exp (a k - r) : ℝ) : EReal)
        = ((x n * (Real.exp (a n - r) / ∑ k ∈ Finset.univ.filter p, Real.exp (a k - r)) : ℝ) : EReal) := fun n => by
      rw [div_real _ hpos'.ne', EReal.coe_mul]
    simp only [hn, coe_sum]
    refine congrArg _ ?_
    have hq : ∀ n, Real.exp (a n - r) / ∑ k ∈ Finset.univ.filter p, Real.exp (a k - r)
        = Real.exp (a n) / ∑ k ∈ Finset.univ.filter p, Real.exp (a k) := fun n => by
      simp only [Real.exp_sub]
      rw [← Finset.sum_div, div_div_div_cancel_right₀ (Real.exp_pos r).ne']
    simp only [hq]
    rw [Finset.sum_div]
    exact Finset.sum_congr rfl fun n _ => by ring
  · have hempty : Finset.univ.filter p = ∅ := Finset.filter_eq_empty_iff.2 fun n _ hn => he ⟨n, hn⟩
    rw [hempty, Finset.sum_empty, Finset.sum_empty, Finset.sum_empty, max_eq_right (EReal.coe_le_coe_iff.2 hε.le), div_real _ hε.ne', zero_div]
    rfl

end Bag

end Cert.Pool

end
-- ==== Proof.Reference.lean ====
module

public import proofs.«01_k».proof.Proof.Landing
public import proofs.«01_k».proof.Proof.Pool

@[expose] public section

set_option maxRecDepth 16384

noncomputable section

open Idealize.ShloMosaic Idealize.ShloMosaic.TcCoe Idealize.SL.Sem Idealize.ShloMosaic.ValueIdx

namespace Cert.ReferenceIdeal.Meaning

open Cert.ReferenceIdeal Cert.ReferenceIdeal.Gen Cert.ReferenceIdeal.Read Cert.ReferenceIdeal.Landing Cert.Score Cert.Pool

/-- The word of the float minus infinity is the bottom of the extended reals. -/
theorem bottom_word : Ideal.ofBits .f32 0xFF800000#32 = ⊥ := by
  simp [Ideal.ofBits, Ideal.ieee]

variable (x0 : FVec Ideal S100000x128 .f32) (x1 : Vec Ideal S100000 .i32) (x2 x3 : FVec Ideal S64x128 .f32) (x4 : FVec Ideal S1x64 .f32)

/-- The first product of the reference, at an element. -/
theorem first_apply (n : Fin 100000) (h : Fin 64) : val_main_v1 (F := Ideal) x0 x2 (ix2 n h) = logitAt x0 x2 n h := by
  rw [val_main_v1_apply]
  refine Finset.sum_congr rfl fun k _ => ?_
  rw [val_main_v0_apply]
  refine congrArg₂ (fun y z : EReal => y * z) (congrArg x0 ?_) (congrArg x2 ?_) <;>
  · funext a; match a with
    | ⟨0, _⟩ => rfl
    | ⟨1, _⟩ => rfl

/-- The second product of the reference, at an element. -/
theorem second_apply (n : Fin 100000) (h : Fin 64) : val_main_v4 (F := Ideal) x0 x3 (ix2 n h) = logitAt x0 x3 n h := by
  rw [val_main_v4_apply]
  refine Finset.sum_congr rfl fun k _ => ?_
  rw [val_main_v3_apply]
  refine congrArg₂ (fun y z : EReal => y * z) (congrArg x0 ?_) (congrArg x3 ?_) <;>
  · funext a; match a with
    | ⟨0, _⟩ => rfl
    | ⟨1, _⟩ => rfl

/-- The product of real rows with real weights is real. -/
theorem logit_real (hx : ∀ i, ∃ r : ℝ, x0 i = (r : EReal)) (hw : ∀ i, ∃ r : ℝ, x3 i = (r : EReal)) (n : Fin 100000) (h : Fin 64) :
    ∃ r : ℝ, logitAt x0 x3 n h = (r : EReal) := by
  choose xr hxr using hx
  choose wr hwr using hw
  refine ⟨∑ k : Fin 128, xr (ix2 n k) * wr (ix2 h k), ?_⟩
  rw [← coe_sum]
  refine Finset.sum_congr rfl fun k _ => ?_
  rw [hxr, hwr, EReal.coe_mul]

/-- The largest logit of a row is real where the logits are. -/
theorem row_max_real (n : Fin 100000) (hl : ∀ h, ∃ r : ℝ, logitAt x0 x3 n h = (r : EReal)) :
    ∃ r : ℝ, val_main_v7 (F := Ideal) x0 x3 (ix1 n) = (r : EReal) := by
  have hd : ∀ i : S100000x64.Idx, reducesTo_S100000x64_S100000_d1.drop i = ix1 n ↔ i 0 = n := by
    intro i
    have hv : (reducesTo_S100000x64_S100000_d1.drop i 0 : Nat) = i 0 := Shape.ReducesTo.drop_apply_val reducesTo_S100000x64_S100000_d1 i 0
    constructor
    · intro e; rw [e] at hv; exact Fin.ext hv.symm
    · intro e
      refine (eq_ix1 _).trans (congrArg ix1 (Fin.ext ?_))
      exact hv.trans (congrArg Fin.val e)
  have hreal : ∀ i : S100000x64.Idx, reducesTo_S100000x64_S100000_d1.drop i = ix1 n → ∃ r : ℝ, val_main_v4 (F := Ideal) x0 x3 i = (r : EReal) := by
    intro i hi
    obtain ⟨r, hr⟩ := hl (i 1)
    refine ⟨r, ?_⟩
    rw [eq_ix2 i, (hd i).1 hi]
    exact (second_apply x0 x3 n (i 1)).trans hr
  have h5 : ∃ r : ℝ, val_main_v5 (F := Ideal) x0 x3 (ix1 n) = (r : EReal) := by
    have e : val_main_v5 (F := Ideal) x0 x3 (ix1 n)
        = (Finset.univ.filter fun i => reducesTo_S100000x64_S100000_d1.drop i = ix1 n).fold max ⊥ (val_main_v4 (F := Ideal) x0 x3) := by
      refine (Host.reduce_eq_fold (max : EReal → EReal → EReal) (val_main_v4 (F := Ideal) x0 x3) (val_main_cst (F := Ideal))
        reducesTo_S100000x64_S100000_d1 h_S_ (ix1 n)).trans ?_
      rw [show val_main_cst (F := Ideal) (Shape.Idx.first h_S_) = ⊥ from bottom_word]
    rw [e]
    refine fold_max_real _ _ (fun i hi => ?_) (ix2 n 0) (Finset.mem_filter.2 ⟨Finset.mem_univ _, (hd _).2 rfl⟩) ?_
    · obtain ⟨r, hr⟩ := hreal i (Finset.mem_filter.1 hi).2
      rw [hr]; exact EReal.coe_ne_top r
    · obtain ⟨r, hr⟩ := hreal (ix2 n 0) ((hd _).2 rfl)
      rw [hr]; exact EReal.coe_ne_bot r
  obtain ⟨r, hr⟩ := h5
  refine ⟨r, ?_⟩
  rw [val_main_v7_apply, val_main_v6_apply, hr]
  show max (Ideal.ofBits .f32 0xFF800000#32) (r : EReal) = _
  rw [bottom_word]
  exact max_eq_right bot_le

/-- A row's exponentials, the largest logit taken off. -/
theorem shifted_apply (n : Fin 100000) (h : Fin 64) :
    val_main_v11 (F := Ideal) x0 x3 (ix2 n h) = Ideal.exp (logitAt x0 x3 n h - val_main_v7 (F := Ideal) x0 x3 (ix1 n)) := by
  rw [val_main_v11_apply, val_main_v10_apply, second_apply, val_main_v9_apply, val_main_v8_apply]
  refine congrArg (fun i => Ideal.exp (logitAt x0 x3 n h - val_main_v7 (F := Ideal) x0 x3 i)) (funext fun a => ?_)
  match a with
  | ⟨0, _⟩ => rfl

/-- The reference's score of a row, the softmax as it forms it. -/
theorem score_apply (n : Fin 100000) :
    val_main_v19 (F := Ideal) x0 x2 x3 x4 (ix1 n)
      = ∑ h : Fin 64, (Ideal.tanh (logitAt x0 x2 n h)
          * Ideal.div (Ideal.exp (logitAt x0 x3 n h - val_main_v7 (F := Ideal) x0 x3 (ix1 n)))
              (0 + ∑ h' : Fin 64, Ideal.exp (logitAt x0 x3 n h' - val_main_v7 (F := Ideal) x0 x3 (ix1 n)))) * x4 (ix2 0 h) := by
  rw [val_main_v19_apply, val_main_v18_apply]
  refine Finset.sum_congr rfl fun h _ => ?_
  have e : lidx_main_v18 (idx_main_v19 (ix1 n)) h = ix2 n h := by
    funext a; apply Fin.ext
    match a with
    | ⟨0, _⟩ => exact Nat.div_one _
    | ⟨1, _⟩ => rfl
  rw [e, val_main_v17_apply, val_main_v16_apply, val_main_v2_apply, val_main_v15_apply, first_apply, shifted_apply, val_main_v14_apply,
    val_main_v13_apply, val_main_v12_apply]
  refine congrArg₂ (fun y z : EReal => y * z) (congrArg (fun y : EReal => Ideal.tanh (logitAt x0 x2 n h)
    * Ideal.div (Ideal.exp (logitAt x0 x3 n h - val_main_v7 (F := Ideal) x0 x3 (ix1 n))) y) (congrArg₂ (fun y z : EReal => y + z) ?_ ?_)) (congrArg x4 ?_)
  · exact Ideal.ofBits_zero_f32
  · refine Finset.sum_congr rfl fun h' _ => ?_
    refine Eq.trans (congrArg (val_main_v11 (F := Ideal) x0 x3) ?_) (shifted_apply x0 x3 n h')
    funext a; match a with
    | ⟨0, _⟩ => rfl
    | ⟨1, _⟩ => rfl
  · funext a; match a with
    | ⟨0, _⟩ => rfl
    | ⟨1, _⟩ => rfl

/-- A row's score is one real number of size at most 69, both as the reference forms it and as one quotient. -/
theorem score_real (hx : ∀ i, ∃ r : ℝ, x0 i = (r : EReal)) (hw2 : ∀ i, ∃ r : ℝ, x3 i = (r : EReal))
    (hw3 : ∀ i, ∃ r : ℝ, x4 i = (r : EReal) ∧ |r| ≤ 69) (n : Fin 100000) :
    ∃ a : ℝ, scoreAt x0 x2 x3 x4 n = (a : EReal) ∧ val_main_v19 (F := Ideal) x0 x2 x3 x4 (ix1 n) = (a : EReal) ∧ |a| ≤ 69 := by
  have hl := logit_real x0 x3 hx hw2 n
  obtain ⟨M, hM⟩ := row_max_real x0 x3 n hl
  choose l hl using hl
  choose t ht hta using fun h => tanh_real (logitAt x0 x2 n h)
  choose w hw hwa using hw3
  refine ⟨mean t l fun h => w (ix2 0 h), ?_, ?_, abs_mean_le _ _ _ 69 hta fun h => hwa _⟩
  · rw [scoreAt]
    simp only [ht, hl, hw]
    exact mean_quotient t l fun h => w (ix2 0 h)
  · rw [score_apply, hM]
    simp only [ht, hl, hw]
    exact mean_shifted t l (fun h => w (ix2 0 h)) M

/-- The largest score of a bag is real where the bag has a row and the scores are real. -/
theorem bag_max_real (hs : ∀ n, ∃ a : ℝ, val_main_v19 (F := Ideal) x0 x2 x3 x4 (ix1 n) = (a : EReal)) (b : Fin 64) (n : Fin 100000)
    (hn : bag x1 n = (b.val : ℤ)) : ∃ r : ℝ, val_main_v28 (F := Ideal) x0 x1 x2 x3 x4 (ix1 b) = (r : EReal) := by
  have hd : ∀ i : S100000x64.Idx, reducesTo_S100000x64_S64_d0.drop i = ix1 b ↔ i 1 = b := by
    intro i
    have hv : (reducesTo_S100000x64_S64_d0.drop i 0 : Nat) = i 1 := Shape.ReducesTo.drop_apply_val reducesTo_S100000x64_S64_d0 i 0
    constructor
    · intro e; rw [e] at hv; exact Fin.ext hv.symm
    · intro e
      refine (eq_ix1 _).trans (congrArg ix1 (Fin.ext ?_))
      exact hv.trans (congrArg Fin.val e)
  have hv27 : ∀ (k : Fin 100000) (q : Fin 64), val_main_v27 (F := Ideal) x0 x1 x2 x3 x4 (ix2 k q)
      = Scalar.select (IntOp.cmpi .eq (x1 (ix1 k)) (BitVec.ofNat 32 q.val)) (val_main_v19 (F := Ideal) x0 x2 x3 x4 (ix1 k)) (⊥ : EReal) := by
    intro k q
    rw [val_main_v27_apply, val_main_v25_apply, val_main_v23_apply, val_main_v20_apply, val_main_v24_apply, val_main_v22_apply,
      val_main_v21_apply, val_main_call0_v1_apply, val_main_v26_apply, val_main_call0_v2_apply, val_main_call0_v0_apply, val_main_cst_2_apply]
    have e1 : idx_main_v20 (idx_main_v23 (ix2 k q)) = ix1 k := funext fun a => match a with | ⟨0, _⟩ => rfl
    have e2 : idx_main_v26 (idx_main_call0_v1 (ix2 k q)) = ix1 k := funext fun a => match a with | ⟨0, _⟩ => rfl
    rw [e1, e2]
    show Scalar.select _ _ (Ideal.ofBits .f32 0xFF800000#32) = _
    rw [bottom_word]
  have hword : ∀ (k : Fin 100000), bag x1 k = (b.val : ℤ) → x1 (ix1 k) = BitVec.ofNat 32 b.val := by
    intro k hk
    apply BitVec.eq_of_toInt_eq
    rw [WordCmp.toInt_ofNat_of_lt (by have := b.isLt; omega)]
    exact hk
  have e : val_main_v28 (F := Ideal) x0 x1 x2 x3 x4 (ix1 b)
      = (Finset.univ.filter fun i => reducesTo_S100000x64_S64_d0.drop i = ix1 b).fold max ⊥ (val_main_v27 (F := Ideal) x0 x1 x2 x3 x4) := by
    refine (Host.reduce_eq_fold (max : EReal → EReal → EReal) (val_main_v27 (F := Ideal) x0 x1 x2 x3 x4) (val_main_cst_3 (F := Ideal))
      reducesTo_S100000x64_S64_d0 h_S_ (ix1 b)).trans ?_
    rw [show val_main_cst_3 (F := Ideal) (Shape.Idx.first h_S_) = ⊥ from bottom_word]
  rw [e]
  refine fold_max_real _ _ (fun i _ => ?_) (ix2 n b) (Finset.mem_filter.2 ⟨Finset.mem_univ _, (hd _).2 rfl⟩) ?_
  · obtain ⟨k, q, rfl⟩ : ∃ (k : Fin 100000) (q : Fin 64), i = ix2 k q := ⟨i 0, i 1, eq_ix2 i⟩
    obtain ⟨r, hr⟩ := hs k
    rw [hv27, WordCmp.cmpi_eq_eq, hr]
    by_cases hc : x1 (ix1 k) = BitVec.ofNat 32 q.val
    · rw [decide_eq_true hc]; exact EReal.coe_ne_top r
    · rw [decide_eq_false hc]; exact bot_ne_top
  · obtain ⟨r, hr⟩ := hs n
    rw [hv27, WordCmp.cmpi_eq_eq, hr, decide_eq_true (hword n hn)]
    exact EReal.coe_ne_bot r

/-- The wrapped row words of the first table read, at a row of bag `b`. -/
theorem index_first (b : Fin 64) (n : Fin 100000) (hn : bag x1 n = (b.val : ℤ)) :
    (val_main_v34 (F := Ideal) x1 (ix2 n 0)).toInt = (b.val : ℤ) := by
  rw [val_main_v34_apply, val_main_v33_apply, val_main_v30_apply, val_main_v29_apply, val_main_c_apply]
  have e : idx_main_v34 (ix2 n 0) = ix1 n := funext fun a => match a with | ⟨0, _⟩ => rfl
  rw [e, wrap_eq _ _ b hn]
  exact hn

/-- The wrapped row words of the second table read, at a row of bag `b`. -/
theorem index_second (b : Fin 64) (n : Fin 100000) (hn : bag x1 n = (b.val : ℤ)) :
    (val_main_v46 (F := Ideal) x1 (ix2 n 0)).toInt = (b.val : ℤ) := by
  rw [val_main_v46_apply, val_main_v45_apply, val_main_v42_apply, val_main_v41_apply, val_main_c_6_apply]
  have e : idx_main_v46 (ix2 n 0) = ix1 n := funext fun a => match a with | ⟨0, _⟩ => rfl
  rw [e, wrap_eq _ _ b hn]
  exact hn

/-- The exponential of a row's score, its bag's largest score taken off. -/
theorem weight_apply (b : Fin 64) (n : Fin 100000) (hn : bag x1 n = (b.val : ℤ)) :
    val_main_v37 (F := Ideal) x0 x1 x2 x3 x4 (ix1 n)
      = Ideal.exp (val_main_v19 (F := Ideal) x0 x2 x3 x4 (ix1 n) - val_main_v28 (F := Ideal) x0 x1 x2 x3 x4 (ix1 b)) := by
  rw [val_main_v37_apply, val_main_v36_apply, val_main_v35, take_apply _ _ n b (index_first x1 b n hn)]
  rfl

/-- The sum of a bag's exponentials. -/
theorem total_apply (b : Fin 64) :
    val_main_v40 (F := Ideal) x0 x1 x2 x3 x4 (ix1 b)
      = 0 + ∑ n ∈ Finset.univ.filter fun n => bag x1 n = (b.val : ℤ),
          Ideal.exp (val_main_v19 (F := Ideal) x0 x2 x3 x4 (ix1 n) - val_main_v28 (F := Ideal) x0 x1 x2 x3 x4 (ix1 b)) := by
  have e : ∀ n : Fin 100000, val_main_v39 (F := Ideal) x1 (ix2 n 0) = x1 (ix1 n) := fun n => column_apply x1 n
  rw [val_main_v40, scatter_one_apply, val_main_v38_apply, val_main_cst_5_apply]
  refine congrArg₂ (fun y z : EReal => y + z) Ideal.ofBits_zero_f32 ?_
  simp only [e]
  exact Finset.sum_congr rfl fun n hn => weight_apply x0 x1 x2 x3 x4 b n (Finset.mem_filter.1 hn).2

/-- The reference's result, at an element. -/
theorem result_apply (b : Fin 64) (d : Fin 128) :
    val_main_v54 (F := Ideal) x0 x1 x2 x3 x4 (ix2 b d)
      = 0 + ∑ n ∈ Finset.univ.filter fun n => bag x1 n = (b.val : ℤ), x0 (ix2 n d)
          * Ideal.div (Ideal.exp (val_main_v19 (F := Ideal) x0 x2 x3 x4 (ix1 n) - val_main_v28 (F := Ideal) x0 x1 x2 x3 x4 (ix1 b)))
            (0 + ∑ k ∈ Finset.univ.filter fun k => bag x1 k = (b.val : ℤ),
              Ideal.exp (val_main_v19 (F := Ideal) x0 x2 x3 x4 (ix1 k) - val_main_v28 (F := Ideal) x0 x1 x2 x3 x4 (ix1 b))) := by
  have e : ∀ n : Fin 100000, val_main_v53 (F := Ideal) x1 (ix2 n 0) = x1 (ix1 n) := fun n => column_apply x1 n
  rw [val_main_v54, scatter_rows_apply, val_main_v52_apply, val_main_cst_8_apply]
  refine congrArg₂ (fun y z : EReal => y + z) Ideal.ofBits_zero_f32 ?_
  simp only [e]
  refine Finset.sum_congr rfl fun n hn => ?_
  have hb : bag x1 n = (b.val : ℤ) := (Finset.mem_filter.1 hn).2
  have e1 : idx_main_v49 (idx_main_v50 (ix2 n d)) = ix1 n := funext fun a => match a with | ⟨0, _⟩ => rfl
  rw [val_main_v51_apply, val_main_v50_apply, val_main_v49_apply, e1, val_main_v48_apply, val_main_v47,
    take_apply _ _ n b (index_second x1 b n hb), weight_apply x0 x1 x2 x3 x4 b n hb, total_apply]
  rfl

end Cert.ReferenceIdeal.Meaning

end
-- ==== Proof.Join.lean ====
module

public import proofs.«01_k».proof.Proof.Rows
public import proofs.«01_k».proof.Proof.Reference

@[expose] public section

set_option maxRecDepth 16384

noncomputable section

open Idealize.ShloMosaic Idealize.ShloMosaic.TcCoe Idealize.SL.Sem Idealize.ShloMosaic.ValueIdx

namespace Cert.Join

open Cert.Score Cert.Pool Cert.ReferenceIdeal.Read Cert.ReferenceIdeal.Meaning

/-- One quotient per element of the result is the reference's sum of weighted rows. -/
theorem quotient_eq (x0 : FVec Ideal Cert.ReferenceIdeal.S100000x128 .f32) (x1 : Vec Ideal Cert.ReferenceIdeal.S100000 .i32)
    (x2 x3 : FVec Ideal Cert.ReferenceIdeal.S64x128 .f32) (x4 : FVec Ideal Cert.ReferenceIdeal.S1x64 .f32)
    (hx : ∀ i, ∃ r : ℝ, x0 i = (r : EReal)) (hw2 : ∀ i, ∃ r : ℝ, x3 i = (r : EReal))
    (hw3 : ∀ i, ∃ r : ℝ, x4 i = (r : EReal) ∧ |r| ≤ 69) (b : Fin 64) (d : Fin 128) :
    Ideal.div (∑ n : Fin 100000, (if bag x1 n = (b.val : ℤ) then Ideal.exp (scoreAt x0 x2 x3 x4 n) else 0) * x0 (ix2 n d))
        (max (∑ n : Fin 100000, (if bag x1 n = (b.val : ℤ) then Ideal.exp (scoreAt x0 x2 x3 x4 n) else 0))
          (Ideal.ofBits .f32 0x0DA24260#32))
      = val_main_v54 (F := Ideal) x0 x1 x2 x3 x4 (ix2 b d) := by
  choose a ha hv hb using score_real x0 x2 x3 x4 hx hw2 hw3
  obtain ⟨ε, he, hpos, hle⟩ := floor_word
  choose xr hxr using hx
  have hp := pooled_eq (fun n => bag x1 n = (b.val : ℤ)) a (fun n => xr (ix2 n d)) ε hpos
    (fun n => hle.trans (Real.exp_le_exp.2 (neg_le_of_abs_le (hb n)))) (val_main_v28 (F := Ideal) x0 x1 x2 x3 x4 (ix1 b))
    (fun n hn => bag_max_real x0 x1 x2 x3 x4 (fun k => ⟨a k, hv k⟩) b n hn)
  rw [result_apply, he]
  simp only [ha, hv, hxr]
  exact hp

end Cert.Join

end
-- ==== Proof.Tame.lean ====
module

public import proofs.«01_k».proof.Pre_tame
public import proofs.«01_k».proof.Proof.Gen.Pre_tame
public import proofs.«01_k».proof.Proof.Score
public import proofs.«01_k».proof.Proof.Count
public import Idealize.ShloMosaic.Lib.ReduceAll
public import Idealize.ShloMosaic.Lib.WordCmp
public import Idealize.ShloMosaic.Lib.Pipeline.Value

@[expose] public section

set_option maxRecDepth 16384

noncomputable section

open Idealize.ShloMosaic Idealize.ShloMosaic.TcCoe Idealize.SL.Sem Idealize.ShloMosaic.ValueIdx

namespace Cert.Tame

open Cert.Score

/-- The word of the float plus infinity is the top of the extended reals. -/
theorem top_word : Ideal.ofBits .f32 0x7F800000#32 = ⊤ := by
  simp [Ideal.ofBits, Ideal.ieee]

/-- The word of the float 69. -/
theorem bound_word : Ideal.ofBits .f32 0x428A0000#32 = ((69 : ℝ) : EReal) := by
  simp [Ideal.ofBits, Ideal.ieee, -EReal.coe_mul]
  norm_num

/-- An extended real whose size is below plus infinity is real. -/
theorem real_of_lt (y : EReal) (h : max y (-y) < ⊤) : ∃ r : ℝ, y = (r : EReal) := by
  induction y with
  | bot => exact absurd h (by simp)
  | top => exact absurd h (by simp)
  | coe r => exact ⟨r, rfl⟩

/-- An extended real of size at most 69 is a real of size at most 69. -/
theorem bounded_of_le (y : EReal) (h : max y (-y) ≤ ((69 : ℝ) : EReal)) : ∃ r : ℝ, y = (r : EReal) ∧ |r| ≤ 69 := by
  obtain ⟨r, rfl⟩ := real_of_lt y (h.trans_lt (EReal.coe_lt_top 69))
  refine ⟨r, rfl, abs_le.2 ⟨?_, EReal.coe_le_coe_iff.1 ((le_max_left _ _).trans h)⟩⟩
  have := (le_max_right _ _).trans h
  rw [← EReal.coe_neg, EReal.coe_le_coe_iff] at this
  linarith

/-- What the precondition says of the arguments: the rows and the second weights are real, the third weights are real and
    of size at most 69, and the bags come in order. -/
theorem facts_of (x0 : FVec Ideal Cert.Pre_tame.S100000x128 .f32) (x1 : IVec Cert.Pre_tame.S100000 32)
    (x2 x3 : FVec Ideal Cert.Pre_tame.S64x128 .f32) (x4 : FVec Ideal Cert.Pre_tame.S1x64 .f32)
    (h : Cert.Pre_tame.fn (F := Ideal) x0 x1 x2 x3 x4 = fun _ => 1#1) :
    (∀ i, ∃ r : ℝ, x0 i = (r : EReal)) ∧ (∀ i, ∃ r : ℝ, x3 i = (r : EReal))
      ∧ (∀ i, ∃ r : ℝ, x4 i = (r : EReal) ∧ |r| ≤ 69) ∧ Monotone (bag x1) := by
  have : Subsingleton Cert.Pre_tame.S_.Idx := ⟨fun i j => funext fun a => a.elim0⟩
  have h0 := congrFun h fun a => a.elim0
  obtain ⟨h13, h17⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, ?_⟩
  · have := Host.reduce_andi_all _ _ _ _ _ h3 i
    refine real_of_lt _ ?_
    rw [← top_word]
    exact (WordCmp.ofBool_decide_eq_one_iff _).1 this
  · have := Host.reduce_andi_all _ _ _ _ _ h7 i
    refine real_of_lt _ ?_
    rw [← top_word]
    exact (WordCmp.ofBool_decide_eq_one_iff _).1 this
  · have := Host.reduce_andi_all _ _ _ _ _ h12 i
    refine bounded_of_le _ ?_
    rw [← bound_word]
    exact (WordCmp.ofBool_decide_eq_one_iff _).1 this
  · refine Cert.Count.monotone_of_steps (N := 99999) (bag x1) fun n => ?_
    have hs := Host.reduce_andi_all _ _ _ _ _ h17 (ix1 n)
    replace hs := (WordCmp.ofBool_decide_eq_one_iff _).1 hs
    have e0 : extractStridedSlice Cert.Pre_tame.S99999 ![0] x1 Cert.Pre_tame.Facts.slices_S100000_S99999_0 (ix1 n) = x1 (ix1 n.castSucc) := by
      refine extractStridedSlice_apply _ _ _ _ _ fun a => ?_
      match a with
      | ⟨0, _⟩ => exact (Nat.zero_add _).symm
    have e1 : extractStridedSlice Cert.Pre_tame.S99999 ![1] x1 Cert.Pre_tame.Facts.slices_S100000_S99999_1 (ix1 n) = x1 (ix1 n.succ) := by
      refine extractStridedSlice_apply _ _ _ _ _ fun a => ?_
      match a with
      | ⟨0, _⟩ => exact Nat.add_comm _ _
    exact (congrArg BitVec.toInt e0).symm.le.trans (hs.trans (congrArg BitVec.toInt e1).le)

end Cert.Tame

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_tame
public import proofs.«01_k».proof.Proof.Gen.ReferenceIdeal.Run
public import proofs.«01_k».proof.Proof.Gen.ReferenceIdeal.Read
public import proofs.«01_k».proof.Proof.Join
public import proofs.«01_k».proof.Proof.Tame
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.ShloMosaic.TcCoe Idealize.SL.Sem

/-- The reference ends, keeps its arguments, and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on arguments the precondition holds of. -/
theorem quiescent_ReferenceIdeal_pre_tame : quiescent_ReferenceIdeal_pre_tame := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's function is the kernel's, element by element, on arguments the precondition holds of. -/
theorem value_eq (m : (ℓ : Loc Cert.KernelIdeal.nD Cert.KernelIdeal.τ Cert.KernelIdeal.sig) → Buf (Elt Ideal) ℓ)
    (hpre : Pre_KernelIdeal_tame m) (c : Dev Cert.KernelIdeal.nD) :
    Cert.ReferenceIdeal.Read.val_main_v54 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G6 m c := by
  obtain ⟨hx, hw2, hw3, hs⟩ := Cert.Tame.facts_of _ _ _ _ _ (hpre c)
  refine funext fun (i : (⟨2, ![64, 128]⟩ : Shape).Idx) => ?_
  rw [ValueIdx.eq_ix2 i]
  exact ((Cert.KernelIdeal.Rows.kernel_apply m c hs (i 0) (i 1)).trans (Cert.Join.quotient_eq _ _ _ _ _ hx hw2 hw3 (i 0) (i 1))).symm

/-- Kernel and reference end with the same result from the same arguments, those the precondition holds of. -/
theorem algebraic_KernelIdeal_ReferenceIdeal_pre_tame : algebraic_KernelIdeal_ReferenceIdeal_pre_tame := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  rw [(h c).1, Cert.ReferenceIdeal.Read.val_main_v54_eq, h0, h1, h2, h3, h4]
  exact value_eq m hpre c

/-- All the claims together. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_tame, (trivial : preserves_Kernel_KernelIdeal), algebraic_KernelIdeal_ReferenceIdeal_pre_tame⟩

end Cert.Proof

end
